-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ln2_sq" .f32 0x3EF5FDF0#32 (((Real.log 2) * (Real.log 2) : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v1_0) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x128x4096 : Shape := ⟨3, ![1, 128, 4096]⟩
abbrev S32000x4096 : Shape := ⟨2, ![32000, 4096]⟩
abbrev S32000 : Shape := ⟨1, ![32000]⟩
abbrev S1x128x7 : Shape := ⟨3, ![1, 128, 7]⟩
abbrev S_ : Shape := ⟨0, ![]⟩

class Facts : Prop where
  bcast_S_S1x128x4096 : S_.BroadcastsInDim S1x128x4096 (![] : Fin 0 → Fin S1x128x4096.rank)
  bcast_S_S1x128x7 : S_.BroadcastsInDim S1x128x7 (![] : Fin 0 → Fin S1x128x7.rank)

variable [Facts]

def fn {F : FTy → Type} [FloatOps F] (main_arg0 : FVec F S1x128x4096 .bf16) (main_arg1 : FVec F S32000x4096 .fp8e4m3) (main_arg2 : FVec F S32000 .f32) (main_arg3 : IVec S1x128x7 32) : IVec S1x128x4096 1 × IVec S1x128x7 1 :=
  let main_v0 : FVec F S1x128x4096 .bf16 := Host.absf main_arg0
  let main_cst : FVec F S_ .bf16 := constant S_ .bf16 0x7F7F#16
  let main_v1 : FVec F S1x128x4096 .bf16 := broadcastInDim S1x128x4096 ![] bcast_S_S1x128x4096 main_cst
  let main_v2 : IVec S1x128x4096 1 := cmpf .ole main_v0 main_v1
  let main_c : IVec S_ 32 := constantI S_ 32 0#32
  let main_v3 : IVec S1x128x7 32 := broadcastInDim S1x128x7 ![] bcast_S_S1x128x7 main_c
  let main_v4 : IVec S1x128x7 1 := cmpi .sge main_arg3 main_v3
  let main_c_0 : IVec S_ 32 := constantI S_ 32 32000#32
  let main_v5 : IVec S1x128x7 32 := broadcastInDim S1x128x7 ![] bcast_S_S1x128x7 main_c_0
  let main_v6 : IVec S1x128x7 1 := cmpi .slt main_arg3 main_v5
  let main_v7 : IVec S1x128x7 1 := andi main_v4 main_v6
  (main_v2, main_v7)
-- ==== Kernel.lean ====
abbrev S1x128x4096 : Shape := ⟨3, ![1, 128, 4096]⟩
abbrev S32000x4096 : Shape := ⟨2, ![32000, 4096]⟩
abbrev S32000 : Shape := ⟨1, ![32000]⟩
abbrev S1x128x7 : Shape := ⟨3, ![1, 128, 7]⟩
abbrev S128x4096 : Shape := ⟨2, ![128, 4096]⟩
abbrev S1x32000 : Shape := ⟨2, ![1, 32000]⟩
abbrev S128x7 : Shape := ⟨2, ![128, 7]⟩
abbrev S1x128 : Shape := ⟨2, ![1, 128]⟩
abbrev S1280x4096 : Shape := ⟨2, ![1280, 4096]⟩
abbrev S1x1280 : Shape := ⟨2, ![1, 1280]⟩
abbrev S128x128 : Shape := ⟨2, ![128, 128]⟩
abbrev S128 : Shape := ⟨1, ![128]⟩
abbrev S128x1 : Shape := ⟨2, ![128, 1]⟩
abbrev S128x1280 : Shape := ⟨2, ![128, 1280]⟩
abbrev S128x121 : Shape := ⟨2, ![128, 121]⟩
abbrev S128x128x1 : Shape := ⟨3, ![128, 128, 1]⟩

abbrev nBuf : Space → Nat
  | .hbm => 12
  | .vmem => 17
  | .smem => 0
  | _ => 0

abbrev bufTy : (tb : Table) → Fin (tcTables nBuf tb) → BufTy
  | .hbm, ⟨0, _⟩ => ⟨S1x128x4096, .bf16⟩
  | .hbm, ⟨1, _⟩ => ⟨S32000x4096, .fp8e4m3⟩
  | .hbm, ⟨2, _⟩ => ⟨S32000, .f32⟩
  | .hbm, ⟨3, _⟩ => ⟨S1x128x7, .i32⟩
  | .hbm, ⟨4, _⟩ => ⟨S128x4096, .bf16⟩
  | .hbm, ⟨5, _⟩ => ⟨S1x32000, .f32⟩
  | .hbm, ⟨6, _⟩ => ⟨S128x7, .i32⟩
  | .hbm, ⟨7, _⟩ => ⟨S1x128, .f32⟩
  | .hbm, ⟨8, _⟩ => ⟨S1x128, .f32⟩
  | .hbm, ⟨9, _⟩ => ⟨S128x7, .f32⟩
  | .hbm, ⟨10, _⟩ => ⟨S128x4096, .fp8e4m3⟩
  | .hbm, ⟨11, _⟩ => ⟨S1x128, .f32⟩
  | .local _ .vmem, ⟨0, _⟩ => ⟨S128x4096, .bf16⟩
  | .local _ .vmem, ⟨1, _⟩ => ⟨S1280x4096, .fp8e4m3⟩
  | .local _ .vmem, ⟨2, _⟩ => ⟨S1280x4096, .fp8e4m3⟩
  | .local _ .vmem, ⟨3, _⟩ => ⟨S1x1280, .f32⟩
  | .local _ .vmem, ⟨4, _⟩ => ⟨S1x1280, .f32⟩
  | .local _ .vmem, ⟨5, _⟩ => ⟨S128x7, .i32⟩
  | .local _ .vmem, ⟨6, _⟩ => ⟨S1x128, .f32⟩
  | .local _ .vmem, ⟨7, _⟩ => ⟨S1x128, .f32⟩
  | .local _ .vmem, ⟨8, _⟩ => ⟨S128x7, .f32⟩
  | .local _ .vmem, ⟨9, _⟩ => ⟨S128x4096, .fp8e4m3⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32 : BitVec 32 := 24#32
  let v305 : BitVec 1 := Scalar.cmpi .eq arg0 c24_i32
  let v306 : BitVec 32 := Scalar.extui v305
  let c0_i32_64 : BitVec 32 := 0#32
  let v307 : BitVec 1 := Scalar.cmpi .ne v306 c0_i32_64
  v307

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x7 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "ln2" => some ((Real.log 2 : ℝ) : EReal)
  | "ln2_sq" => some (((Real.log 2) * (Real.log 2) : ℝ) : EReal)
  | "log2e" => some (((Real.log 2)⁻¹ : ℝ) : EReal)
  | _ => none
-- ==== ReferenceIdeal.lean ====
abbrev S1x128x4096 : Shape := ⟨3, ![1, 128, 4096]⟩
abbrev S32000x4096 : Shape := ⟨2, ![32000, 4096]⟩
abbrev S32000 : Shape := ⟨1, ![32000]⟩
abbrev S1x128x7 : Shape := ⟨3, ![1, 128, 7]⟩
abbrev S128x4096 : Shape := ⟨2, ![128, 4096]⟩
abbrev S128x1 : Shape := ⟨2, ![128, 1]⟩
abbrev S128x32000 : Shape := ⟨2, ![128, 32000]⟩
abbrev S128 : Shape := ⟨1, ![128]⟩
abbrev S1x32000 : Shape := ⟨2, ![1, 32000]⟩
abbrev S_ : Shape := ⟨0, ![]⟩
abbrev S128x7 : Shape := ⟨2, ![128, 7]⟩
abbrev S128x7x1 : Shape := ⟨3, ![128, 7, 1]⟩
abbrev S1 : Shape := ⟨1, ![1]⟩
abbrev S1x1x1 : Shape := ⟨3, ![1, 1, 1]⟩
abbrev S1x128 : Shape := ⟨2, ![1, 128]⟩

abbrev nBuf : Space → Nat
  | .hbm => 67
  | .vmem => 5
  | .smem => 0
  | _ => 0

abbrev bufTy : (tb : Table) → Fin (tcTables nBuf tb) → BufTy
  | .hbm, ⟨0, _⟩ => ⟨S1x128x4096, .bf16⟩
  | .hbm, ⟨1, _⟩ => ⟨S32000x4096, .fp8e4m3⟩
  | .hbm, ⟨2, _⟩ => ⟨S32000, .f32⟩
  | .hbm, ⟨3, _⟩ => ⟨S1x128x7, .i32⟩
  | .hbm, ⟨4, _⟩ => ⟨S128x4096, .bf16⟩
  | .hbm, ⟨5, _⟩ => ⟨S128x4096, .fp8e4m3⟩
  | .hbm, ⟨6, _⟩ => ⟨S128x1, .f32⟩
  | .hbm, ⟨7, _⟩ => ⟨S128x32000, .f32⟩
  | .hbm, ⟨8, _⟩ => ⟨S128x32000, .f32⟩
  | .hbm, ⟨9, _⟩ => ⟨S128x32000, .f32⟩
  | .hbm, ⟨10, _⟩ => ⟨S1x32000, .f32⟩
  | .hbm, ⟨11, _⟩ => ⟨S128x32000, .f32⟩
  | .hbm, ⟨12, _⟩ => ⟨S128x32000, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S128x32000, .f32⟩
  | .hbm, ⟨17, _⟩ => ⟨S128x32000, .f32⟩
  | .hbm, ⟨18, _⟩ => ⟨S128x32000, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S128x1, .f32⟩
  | .hbm, ⟨23, _⟩ => ⟨S128x32000, .f32⟩
  | .hbm, ⟨24, _⟩ => ⟨S128x32000, .f32⟩
  | .hbm, ⟨25, _⟩ => ⟨S128x32000, .f32⟩
  | .hbm, ⟨26, _⟩ => ⟨S128x32000, .f32⟩
  | .hbm, ⟨27, _⟩ => ⟨S128x32000, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128x1, .f32⟩
  | .hbm, ⟨32, _⟩ => ⟨S128x32000, .f32⟩
  | .hbm, ⟨33, _⟩ => ⟨S128x32000, .f32⟩
  | .hbm, ⟨34, _⟩ => ⟨S128x32000, .f32⟩
  | .hbm, ⟨35, _⟩ => ⟨S128x32000, .f32⟩
  | .hbm, ⟨36, _⟩ => ⟨S_, .f32⟩
  | .hbm, ⟨37, _⟩ => ⟨S128, .f32⟩
  | .hbm, ⟨38, _⟩ => ⟨S128x7, .i32⟩
  | .hbm, ⟨39, _⟩ => ⟨S_, .i32⟩
  | .hbm, ⟨40, _⟩ => ⟨S128x7, .i32⟩
  | .hbm, ⟨41, _⟩ => ⟨S128x7, .i1⟩
  | .hbm, ⟨42, _⟩ => ⟨S_, .i32⟩
  | .hbm, ⟨43, _⟩ => ⟨S128x7, .i32⟩
  | .hbm, ⟨44, _⟩ => ⟨S128x7, .i32⟩
  | .hbm, ⟨45, _⟩ => ⟨S128x7, .i32⟩
  | .hbm, ⟨46, _⟩ => ⟨S128x7x1, .i32⟩
  | .hbm, ⟨47, _⟩ => ⟨S1, .i32⟩
  | .hbm, ⟨48, _⟩ => ⟨S_, .i32⟩
  | .hbm, ⟨49, _⟩ => ⟨S128x7x1, .i32⟩
  | .hbm, ⟨50, _⟩ => ⟨S128x7x1, .i1⟩
  | .hbm, ⟨51, _⟩ => ⟨S1x1x1, .i32⟩
  | .hbm, ⟨52, _⟩ => ⟨S128x7x1, .i32⟩
  | .hbm, ⟨53, _⟩ => ⟨S128x7x1, .i1⟩
  | .hbm, ⟨54, _⟩ => ⟨S128x7x1, .i1⟩
  | .hbm, ⟨55, _⟩ => ⟨S_, .i1⟩
  | .hbm, ⟨56, _⟩ => ⟨S128x7, .i1⟩
  | .hbm, ⟨57, _⟩ => ⟨S128x7, .f32⟩
  | .hbm, ⟨58, _⟩ => ⟨S_, .f32⟩
  | .hbm, ⟨59, _⟩ => ⟨S128x7, .f32⟩
  | .hbm, ⟨60, _⟩ => ⟨S128x7, .f32⟩
  | .hbm, ⟨61, _⟩ => ⟨S128x1, .f32⟩
  | .hbm, ⟨62, _⟩ => ⟨S128x7, .f32⟩
  | .hbm, ⟨63, _⟩ => ⟨S128x7, .f32⟩
  | .hbm, ⟨64, _⟩ => ⟨S1x128, .f32⟩
  | .hbm, ⟨65, _⟩ => ⟨S1x128, .f32⟩
  | .hbm, ⟨66, _⟩ => ⟨S1x128, .f32⟩
  | .local _ .vmem, ⟨0, _⟩ => ⟨S128x4096, .bf16⟩
  | .local _ .vmem, ⟨1, _⟩ => ⟨S32000x4096, .fp8e4m3⟩
  | .local _ .vmem, ⟨2, _⟩ => ⟨S128x4096, .fp8e4m3⟩
  | .local _ .vmem, ⟨3, _⟩ => ⟨S128x1, .f32⟩
  | .local _ .vmem, ⟨4, _⟩ => ⟨S128x32000, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_cst : Ref sig .tc := ⟨.hbm, 58, rfl⟩
abbrev main_call0_v14 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelStep.lean ====
/- What the body of `Cert.Kernel`'s kernel computes at one grid point, as functions of what its buffers hold.
   `zTile` is the scaled logit tile `k` of the point's block of 1280 columns; `Carry` is what the kernel carries from
   point to point; `stepC` is one point's update of it; `initC` is what the first point starts from. -/
module

public import proofs.«01_k».proof.Proof.Gen.Kernel.Frame
public import proofs.«01_k».proof.Proof.Gen.Kernel.Skeleton
public import Idealize.ShloMosaic.Lib.VecWindow
public import Idealize.ShloMosaic.Lib.Pipeline.Value

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A 128 × 128 array of 32-bit floats. -/
abbrev A (F : FTy → Type) := Vec F S128x128 .f32

/-- The 128 columns of the block of weight scales that start at column `o`. -/
def wsTile (ws : Vec F S1x1280 .f32) (o : Nat) (h : ∀ a, (![0, o] : Fin 2 → Nat) a + S1x128.size a ≤ S1x1280.size a) : Vec F S1x128 .f32 :=
  VecWindow.window (s := S1x1280) ws ![0, o] S1x128.size h

/-- Tile 0 of the point's scaled logits: product of codes and weights, times the row scale, times the weight scale. -/
def z0 (cd : Vec F S128x4096 .fp8e4m3) (w : Vec F S1280x4096 .fp8e4m3) (ws : Vec F S1x1280 .f32) (x2 : A F) : A F :=
  k0_pay30 cd w x2 (wsTile ws 0 inb_S1x1280_S1x128_0_0)

/-- Tile 1 of the point's scaled logits: product of codes and weights, times the row scale, times the weight scale. -/
def z1 (cd : Vec F S128x4096 .fp8e4m3) (w : Vec F S1280x4096 .fp8e4m3) (ws : Vec F S1x1280 .f32) (x2 : A F) : A F :=
  k0_pay31 cd w x2 (wsTile ws 128 inb_S1x1280_S1x128_0_128)

/-- Tile 2 of the point's scaled logits: product of codes and weights, times the row scale, times the weight scale. -/
def z2 (cd : Vec F S128x4096 .fp8e4m3) (w : Vec F S1280x4096 .fp8e4m3) (ws : Vec F S1x1280 .f32) (x2 : A F) : A F :=
  k0_pay32 cd w x2 (wsTile ws 256 inb_S1x1280_S1x128_0_256)

/-- Tile 3 of the point's scaled logits: product of codes and weights, times the row scale, times the weight scale. -/
def z3 (cd : Vec F S128x4096 .fp8e4m3) (w : Vec F S1280x4096 .fp8e4m3) (ws : Vec F S1x1280 .f32) (x2 : A F) : A F :=
  k0_pay33 cd w x2 (wsTile ws 384 inb_S1x1280_S1x128_0_384)

/-- Tile 4 of the point's scaled logits: product of codes and weights, times the row scale, times the weight scale. -/
def z4 (cd : Vec F S128x4096 .fp8e4m3) (w : Vec F S1280x4096 .fp8e4m3) (ws : Vec F S1x1280 .f32) (x2 : A F) : A F :=
  k0_pay34 cd w x2 (wsTile ws 512 inb_S1x1280_S1x128_0_512)

/-- Tile 5 of the point's scaled logits: product of codes and weights, times the row scale, times the weight scale. -/
def z5 (cd : Vec F S128x4096 .fp8e4m3) (w : Vec F S1280x4096 .fp8e4m3) (ws : Vec F S1x1280 .f32) (x2 : A F) : A F :=
  k0_pay36 x2 (k0_pay35 cd w) (wsTile ws 640 inb_S1x1280_S1x128_0_640)

/-- Tile 6 of the point's scaled logits: product of codes and weights, times the row scale, times the weight scale. -/
def z6 (cd : Vec F S128x4096 .fp8e4m3) (w : Vec F S1280x4096 .fp8e4m3) (ws : Vec F S1x1280 .f32) (x2 : A F) : A F :=
  k0_pay37 (k0_pay29 cd w) x2 (wsTile ws 768 inb_S1x1280_S1x128_0_768)

/-- Tile 7 of the point's scaled logits: product of codes and weights, times the row scale, times the weight scale. -/
def z7 (cd : Vec F S128x4096 .fp8e4m3) (w : Vec F S1280x4096 .fp8e4m3) (ws : Vec F S1x1280 .f32) (x2 : A F) : A F :=
  k0_pay38 (k0_pay29 cd w) x2 (wsTile ws 896 inb_S1x1280_S1x128_0_896)

/-- Tile 8 of the point's scaled logits: product of codes and weights, times the row scale, times the weight scale. -/
def z8 (cd : Vec F S128x4096 .fp8e4m3) (w : Vec F S1280x4096 .fp8e4m3) (ws : Vec F S1x1280 .f32) (x2 : A F) : A F :=
  k0_pay39 (k0_pay29 cd w) x2 (wsTile ws 1024 inb_S1x1280_S1x128_0_1024)

/-- Tile 9 of the point's scaled logits: product of codes and weights, times the row scale, times the weight scale. -/
def z9 (cd : Vec F S128x4096 .fp8e4m3) (w : Vec F S1280x4096 .fp8e4m3) (ws : Vec F S1x1280 .f32) (x2 : A F) : A F :=
  k0_pay40 (k0_pay29 cd w) x2 (wsTile ws 1152 inb_S1x1280_S1x128_0_1152)

/-- What the kernel carries from point to point: the running lane maxima, the three running sums, and the gathered
    target logits. -/
structure Carry (F : FTy → Type) where
  m : A F
  s0 : A F
  s1 : A F
  s2 : A F
  t : A F

section
variable (z0 z1 z2 z3 z4 z5 z6 z7 z8 z9 : A F) (tl tt : IVec S128x128 32) (s : Carry F)

/-- The new lane maxima. -/
def newM : A F := k0_pay49 z0 z1 z2 z3 z4 z5 z6 z7 z8 z9 s.m
/-- The new sums of exponentials. -/
def newS0 : A F := k0_pay99 z7 z8 z9 (newM z0 z1 z2 z3 z4 z5 z6 z7 z8 z9 s) (k0_pay84 z4 z5 z6 (newM z0 z1 z2 z3 z4 z5 z6 z7 z8 z9 s)
  (k0_pay70 z1 z2 z3 (newM z0 z1 z2 z3 z4 z5 z6 z7 z8 z9 s) (k0_pay55 z0 z1 z2 z3 z4 z5 z6 z7 z8 z9 s.m s.s0)))
/-- The new sums of exponentials times distance to the maximum. -/
def newS1 : A F := k0_pay100 z7 z8 z9 (newM z0 z1 z2 z3 z4 z5 z6 z7 z8 z9 s) (k0_pay85 z4 z5 z6 (newM z0 z1 z2 z3 z4 z5 z6 z7 z8 z9 s)
  (k0_pay71 z1 z2 z3 (newM z0 z1 z2 z3 z4 z5 z6 z7 z8 z9 s) (k0_pay56 z0 z1 z2 z3 z4 z5 z6 z7 z8 z9 s.m s.s0 s.s1)))
/-- The new sums of exponentials times squared distance to the maximum. -/
def newS2 : A F := k0_pay101 z7 z8 z9 (newM z0 z1 z2 z3 z4 z5 z6 z7 z8 z9 s) (k0_pay86 z4 z5 z6 (newM z0 z1 z2 z3 z4 z5 z6 z7 z8 z9 s)
  (k0_pay72 z1 z2 z3 (newM z0 z1 z2 z3 z4 z5 z6 z7 z8 z9 s) (k0_pay57 z0 z1 z2 z3 z4 z5 z6 z7 z8 z9 s.m s.s0 s.s1 s.s2)))
/-- The gathered target logits after tiles 0 to 8. -/
def preT : A F := k0_pay95 z6 z7 z8 tl tt (k0_pay80 z3 z4 z5 tl tt (k0_pay66 z1 z2 tl tt s.t (k0_pay58 z0 tl) k0_pay59) (k0_pay73 tl)) (k0_pay87 tl) (k0_pay88 tl)
/-- The gathered target logits after all ten tiles. -/
def newT : A F := k0_pay1 z9 tl tt (preT z0 z1 z2 z3 z4 z5 z6 z7 z8 tl tt s) (k0_pay102 tl)

end

section
variable (i : grid0.Coords) (cd : Vec F S128x4096 .fp8e4m3) (w : Vec F S1280x4096 .fp8e4m3) (ws : Vec F S1x1280 .f32) (tg : Vec F S128x7 .i32) (x2 : A F) (s : Carry F)

/-- One point's update of what is carried. -/
def stepC : Carry F where
  m := newM (z0 cd w ws x2) (z1 cd w ws x2) (z2 cd w ws x2) (z3 cd w ws x2) (z4 cd w ws x2) (z5 cd w ws x2) (z6 cd w ws x2) (z7 cd w ws x2) (z8 cd w ws x2) (z9 cd w ws x2) s
  s0 := newS0 (z0 cd w ws x2) (z1 cd w ws x2) (z2 cd w ws x2) (z3 cd w ws x2) (z4 cd w ws x2) (z5 cd w ws x2) (z6 cd w ws x2) (z7 cd w ws x2) (z8 cd w ws x2) (z9 cd w ws x2) s
  s1 := newS1 (z0 cd w ws x2) (z1 cd w ws x2) (z2 cd w ws x2) (z3 cd w ws x2) (z4 cd w ws x2) (z5 cd w ws x2) (z6 cd w ws x2) (z7 cd w ws x2) (z8 cd w ws x2) (z9 cd w ws x2) s
  s2 := newS2 (z0 cd w ws x2) (z1 cd w ws x2) (z2 cd w ws x2) (z3 cd w ws x2) (z4 cd w ws x2) (z5 cd w ws x2) (z6 cd w ws x2) (z7 cd w ws x2) (z8 cd w ws x2) (z9 cd w ws x2) s
  t := newT (z0 cd w ws x2) (z1 cd w ws x2) (z2 cd w ws x2) (z3 cd w ws x2) (z4 cd w ws x2) (z5 cd w ws x2) (z6 cd w ws x2) (z7 cd w ws x2) (z8 cd w ws x2) (z9 cd w ws x2) (k0_pay46 (F := F) tg) (k0_pay48 (k0_pay47 (F := F) tg) (Scalar.muli (BitVec.ofNat 32 (i 0).val) 10#32)) s

/-- What the first point starts from: the first tile as the lane maxima, and zeros. -/
def initC : Carry F where
  m := z0 cd w ws x2
  s0 := k0_pay42
  s1 := k0_pay43
  s2 := k0_pay44
  t := k0_pay19

end

/-- The entropies from what is carried. -/
def entOf (s : Carry F) : Vec F S1x128 .f32 := k0_pay26 s.m s.s0 s.s1
/-- The varentropies from what is carried. -/
def varOf (s : Carry F) : Vec F S1x128 .f32 := k0_pay27 s.m s.s0 s.s1 s.s2
/-- The target log-probabilities from what is carried. -/
def lpOf (s : Carry F) : Vec F S128x7 .f32 :=
  extractStridedSlice S128x7 ![0, 0] (mulf (subf s.t (k0_pay28 s.m s.s0)) (broadcast S128x128 (Scalar.ofBits .f32 0x3F317218#32))) slices_S128x128_o0_0_S128x7

/-- The scale row the first point stores. -/
def rowOf (x : Vec F S128x4096 .bf16) : Vec F S1x128 .f32 :=
  k0_pay16 (k0_pay12 (k0_pay9 x) (k0_pay10 x) (k0_pay11 x)) (k0_pay13 (k0_pay9 x) (k0_pay10 x) (k0_pay11 x)) 126#32
/-- The row scales times log2 e the first point stores. -/
def x2Of (x : Vec F S128x4096 .bf16) : A F :=
  k0_pay17 (k0_pay12 (k0_pay9 x) (k0_pay10 x) (k0_pay11 x)) (k0_pay13 (k0_pay9 x) (k0_pay10 x) (k0_pay11 x)) 126#32
/-- The fp8 codes the first point stores. -/
def cdOf (x : Vec F S128x4096 .bf16) : Vec F S128x4096 .fp8e4m3 :=
  k0_pay18 (k0_pay8 x) (k0_pay12 (k0_pay9 x) (k0_pay10 x) (k0_pay11 x)) (k0_pay13 (k0_pay9 x) (k0_pay10 x) (k0_pay11 x)) 126#32

end Cert.Kernel.Own

end
-- ==== Proof.KernelRun.lean ====
/- The body of `Cert.Kernel`'s kernel run once at a grid point, on any staging buffers: the first point (`run_first`), a
   point in the middle (`run_mid`) and the last point (`run_last`), each with what every buffer holds afterwards. -/
module

public import proofs.«01_k».proof.Proof.KernelStep

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The condition of the body's first branch (first point). -/
abbrev c1 (i : grid0.Coords) : Prop := k0_cond1 i = 1#1
/-- The condition of the body's second branch (first point). -/
abbrev c2 (i : grid0.Coords) : Prop := (Scalar.cmpi .ne (Scalar.extui (Scalar.cmpi .eq (BitVec.ofNat 32 (i 0).val) 0#32)) 0#32) = 1#1
/-- The condition of the body's third branch (last point). -/
abbrev c3 (i : grid0.Coords) : Prop := k0_cond3 i = 1#1

theorem read_tile {κ : Kind} {sp : Space} (v : View sig κ sp S1x1280 .f32) (f : v.ty.Contents (Elt F)) (o : Nat)
    (h : ∀ a, (![0, o] : Fin 2 → Nat) a + S1x128.size a ≤ S1x1280.size a) :
    v.readAt (Elt F) (Rect.unit (s := S1x1280) ![0, o] S1x128.size h).toLoadRect f = wsTile (v.read (Elt F) f) o h :=
  View.readAt_unit v f h rfl h

theorem rw_a {κ : Kind} {sp : Space} {e : EltTy} (v : View sig κ sp S128x128 e) (f : v.ty.Contents (Elt F)) (inb : ∀ a, (![0, 0] : Fin 2 → Nat) a + (![128, 128] : Fin 2 → Nat) a ≤ S128x128.size a)
    (w : (Rect.unit (s := S128x128) ![0, 0] ![128, 128] inb).shape.Idx → Elt F e) (L : List (View.Piece (Elt F) S128x128 e)) :
    v.read (Elt F) (v.writes (Elt F) f (⟨Rect.unit (s := S128x128) ![0, 0] ![128, 128] inb, w⟩ :: L)) = w := View.read_writes_full v f inb w L
theorem ra_a {κ : Kind} {sp : Space} {e : EltTy} (v : View sig κ sp S128x128 e) (f : v.ty.Contents (Elt F)) (inb : ∀ a, (![0, 0] : Fin 2 → Nat) a + (![128, 128] : Fin 2 → Nat) a ≤ S128x128.size a) :
    v.readAt (Elt F) (Rect.unit (s := S128x128) ![0, 0] ![128, 128] inb).toLoadRect f = v.read (Elt F) f := View.readAt_full v f inb
theorem rc_a {κ : Kind} {sp : Space} {e : EltTy} (v : View sig κ sp S128x128 e) (inb inb' : ∀ a, (![0, 0] : Fin 2 → Nat) a + (![128, 128] : Fin 2 → Nat) a ≤ S128x128.size a)
    (w : (Rect.unit (s := S128x128) ![0, 0] ![128, 128] inb).shape.Idx → Elt F e) (L : List (View.Piece (Elt F) S128x128 e)) :
    v.readCov (⟨Rect.unit (s := S128x128) ![0, 0] ![128, 128] inb, w⟩ :: L) (Rect.unit (s := S128x128) ![0, 0] ![128, 128] inb').toLoadRect = w := View.readCov_full v inb' inb w L
theorem rw_b {κ : Kind} {sp : Space} {e : EltTy} (v : View sig κ sp S128x4096 e) (f : v.ty.Contents (Elt F)) (inb : ∀ a, (![0, 0] : Fin 2 → Nat) a + (![128, 4096] : Fin 2 → Nat) a ≤ S128x4096.size a)
    (w : (Rect.unit (s := S128x4096) ![0, 0] ![128, 4096] inb).shape.Idx → Elt F e) (L : List (View.Piece (Elt F) S128x4096 e)) :
    v.read (Elt F) (v.writes (Elt F) f (⟨Rect.unit (s := S128x4096) ![0, 0] ![128, 4096] inb, w⟩ :: L)) = w := View.read_writes_full v f inb w L
theorem ra_b {κ : Kind} {sp : Space} {e : EltTy} (v : View sig κ sp S128x4096 e) (f : v.ty.Contents (Elt F)) (inb : ∀ a, (![0, 0] : Fin 2 → Nat) a + (![128, 4096] : Fin 2 → Nat) a ≤ S128x4096.size a) :
    v.readAt (Elt F) (Rect.unit (s := S128x4096) ![0, 0] ![128, 4096] inb).toLoadRect f = v.read (Elt F) f := View.readAt_full v f inb
theorem rc_b {κ : Kind} {sp : Space} {e : EltTy} (v : View sig κ sp S128x4096 e) (inb inb' : ∀ a, (![0, 0] : Fin 2 → Nat) a + (![128, 4096] : Fin 2 → Nat) a ≤ S128x4096.size a)
    (w : (Rect.unit (s := S128x4096) ![0, 0] ![128, 4096] inb).shape.Idx → Elt F e) (L : List (View.Piece (Elt F) S128x4096 e)) :
    v.readCov (⟨Rect.unit (s := S128x4096) ![0, 0] ![128, 4096] inb, w⟩ :: L) (Rect.unit (s := S128x4096) ![0, 0] ![128, 4096] inb').toLoadRect = w := View.readCov_full v inb' inb w L
theorem rw_c {κ : Kind} {sp : Space} {e : EltTy} (v : View sig κ sp S1280x4096 e) (f : v.ty.Contents (Elt F)) (inb : ∀ a, (![0, 0] : Fin 2 → Nat) a + (![1280, 4096] : Fin 2 → Nat) a ≤ S1280x4096.size a)
    (w : (Rect.unit (s := S1280x4096) ![0, 0] ![1280, 4096] inb).shape.Idx → Elt F e) (L : List (View.Piece (Elt F) S1280x4096 e)) :
    v.read (Elt F) (v.writes (Elt F) f (⟨Rect.unit (s := S1280x4096) ![0, 0] ![1280, 4096] inb, w⟩ :: L)) = w := View.read_writes_full v f inb w L
theorem ra_c {κ : Kind} {sp : Space} {e : EltTy} (v : View sig κ sp S1280x4096 e) (f : v.ty.Contents (Elt F)) (inb : ∀ a, (![0, 0] : Fin 2 → Nat) a + (![1280, 4096] : Fin 2 → Nat) a ≤ S1280x4096.size a) :
    v.readAt (Elt F) (Rect.unit (s := S1280x4096) ![0, 0] ![1280, 4096] inb).toLoadRect f = v.read (Elt F) f := View.readAt_full v f inb
theorem rc_c {κ : Kind} {sp : Space} {e : EltTy} (v : View sig κ sp S1280x4096 e) (inb inb' : ∀ a, (![0, 0] : Fin 2 → Nat) a + (![1280, 4096] : Fin 2 → Nat) a ≤ S1280x4096.size a)
    (w : (Rect.unit (s := S1280x4096) ![0, 0] ![1280, 4096] inb).shape.Idx → Elt F e) (L : List (View.Piece (Elt F) S1280x4096 e)) :
    v.readCov (⟨Rect.unit (s := S1280x4096) ![0, 0] ![1280, 4096] inb, w⟩ :: L) (Rect.unit (s := S1280x4096) ![0, 0] ![1280, 4096] inb').toLoadRect = w := View.readCov_full v inb' inb w L
theorem rw_d {κ : Kind} {sp : Space} {e : EltTy} (v : View sig κ sp S1x128 e) (f : v.ty.Contents (Elt F)) (inb : ∀ a, (![0, 0] : Fin 2 → Nat) a + (![1, 128] : Fin 2 → Nat) a ≤ S1x128.size a)
    (w : (Rect.unit (s := S1x128) ![0, 0] ![1, 128] inb).shape.Idx → Elt F e) (L : List (View.Piece (Elt F) S1x128 e)) :
    v.read (Elt F) (v.writes (Elt F) f (⟨Rect.unit (s := S1x128) ![0, 0] ![1, 128] inb, w⟩ :: L)) = w := View.read_writes_full v f inb w L
theorem ra_d {κ : Kind} {sp : Space} {e : EltTy} (v : View sig κ sp S1x128 e) (f : v.ty.Contents (Elt F)) (inb : ∀ a, (![0, 0] : Fin 2 → Nat) a + (![1, 128] : Fin 2 → Nat) a ≤ S1x128.size a) :
    v.readAt (Elt F) (Rect.unit (s := S1x128) ![0, 0] ![1, 128] inb).toLoadRect f = v.read (Elt F) f := View.readAt_full v f inb
theorem rc_d {κ : Kind} {sp : Space} {e : EltTy} (v : View sig κ sp S1x128 e) (inb inb' : ∀ a, (![0, 0] : Fin 2 → Nat) a + (![1, 128] : Fin 2 → Nat) a ≤ S1x128.size a)
    (w : (Rect.unit (s := S1x128) ![0, 0] ![1, 128] inb).shape.Idx → Elt F e) (L : List (View.Piece (Elt F) S1x128 e)) :
    v.readCov (⟨Rect.unit (s := S1x128) ![0, 0] ![1, 128] inb, w⟩ :: L) (Rect.unit (s := S1x128) ![0, 0] ![1, 128] inb').toLoadRect = w := View.readCov_full v inb' inb w L
theorem rw_e {κ : Kind} {sp : Space} {e : EltTy} (v : View sig κ sp S128x7 e) (f : v.ty.Contents (Elt F)) (inb : ∀ a, (![0, 0] : Fin 2 → Nat) a + (![128, 7] : Fin 2 → Nat) a ≤ S128x7.size a)
    (w : (Rect.unit (s := S128x7) ![0, 0] ![128, 7] inb).shape.Idx → Elt F e) (L : List (View.Piece (Elt F) S128x7 e)) :
    v.read (Elt F) (v.writes (Elt F) f (⟨Rect.unit (s := S128x7) ![0, 0] ![128, 7] inb, w⟩ :: L)) = w := View.read_writes_full v f inb w L
theorem ra_e {κ : Kind} {sp : Space} {e : EltTy} (v : View sig κ sp S128x7 e) (f : v.ty.Contents (Elt F)) (inb : ∀ a, (![0, 0] : Fin 2 → Nat) a + (![128, 7] : Fin 2 → Nat) a ≤ S128x7.size a) :
    v.readAt (Elt F) (Rect.unit (s := S128x7) ![0, 0] ![128, 7] inb).toLoadRect f = v.read (Elt F) f := View.readAt_full v f inb
theorem rc_e {κ : Kind} {sp : Space} {e : EltTy} (v : View sig κ sp S128x7 e) (inb inb' : ∀ a, (![0, 0] : Fin 2 → Nat) a + (![128, 7] : Fin 2 → Nat) a ≤ S128x7.size a)
    (w : (Rect.unit (s := S128x7) ![0, 0] ![128, 7] inb).shape.Idx → Elt F e) (L : List (View.Piece (Elt F) S128x7 e)) :
    v.readCov (⟨Rect.unit (s := S128x7) ![0, 0] ![128, 7] inb, w⟩ :: L) (Rect.unit (s := S128x7) ![0, 0] ![128, 7] inb').toLoadRect = w := View.readCov_full v inb' inb w L
theorem read_tile' {κ : Kind} {sp : Space} (v : View sig κ sp S1x1280 .f32) (f : v.ty.Contents (Elt F)) (o : Nat)
    (h : ∀ a, (![0, o] : Fin 2 → Nat) a + (![1, 128] : Fin 2 → Nat) a ≤ S1x1280.size a) :
    v.readAt (Elt F) (Rect.unit (s := S1x1280) ![0, o] ![1, 128] h).toLoadRect f = wsTile (v.read (Elt F) f) o h :=
  View.readAt_unit v f h rfl h

theorem pay2_eq (v : A F) : k0_pay2 v = v := shapeCast_self _ _
theorem pay3_eq (v : A F) : k0_pay3 v = v := shapeCast_self _ _
theorem pay4_eq (v : A F) : k0_pay4 v = v := shapeCast_self _ _
theorem pay5_eq (v : A F) : k0_pay5 v = v := shapeCast_self _ _
theorem pay41_eq (v : A F) : k0_pay41 v = v := shapeCast_self _ _
theorem pay6_eq (z : A F) (a b : IVec S128x128 32) (g : A F) (p : IVec S128x128 1) : k0_pay6 z a b g p = k0_pay1 z a b g p := shapeCast_self _ _

section
variable (c : Dev nD) (i : grid0.Coords) (arg1 : Memref sig .tc .vmem S128x4096 .bf16) (harg1 : arg1.IsWhole) (arg2 : Memref sig .tc .vmem S1280x4096 .fp8e4m3) (harg2 : arg2.IsWhole) (arg3 : Memref sig .tc .vmem S1x1280 .f32) (harg3 : arg3.IsWhole) (arg4 : Memref sig .tc .vmem S128x7 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x7 .f32) (harg7 : arg7.IsWhole) (arg8 : Memref sig .tc .vmem S128x4096 .fp8e4m3) (harg8 : arg8.IsWhole) (arg9 : Memref sig .tc .vmem S1x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
  (x : Vec F S128x4096 .bf16) (w : Vec F S1280x4096 .fp8e4m3) (ws : Vec F S1x1280 .f32) (tg : Vec F S128x7 .i32)
  (y4 y5 : Vec F S1x128 .f32) (y6 : Vec F S128x7 .f32) (cd : Vec F S128x4096 .fp8e4m3) (y8 : Vec F S1x128 .f32) (x2 : A F) (s : Carry F)

set_option maxHeartbeats 8000000 in
/-- The body at a point in the middle: what is carried advances one step; nothing else changes. -/
theorem run_mid (h1 : ¬c1 i) (h2 : ¬c2 i) (h3 : ¬c3 i) (E : Set ℕ) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ owns (c : Thread nD τ) arg8 fullShare cd ∗ owns (c : Thread nD τ) arg9 fullShare y8 ∗ owns (c : Thread nD τ) arg10 fullShare x2 ∗ owns (c : Thread nD τ) arg11 fullShare s.m ∗ owns (c : Thread nD τ) arg12 fullShare s.s0 ∗ owns (c : Thread nD τ) arg13 fullShare s.s1 ∗ owns (c : Thread nD τ) arg14 fullShare s.s2 ∗ owns (c : Thread nD τ) arg15 fullShare s.t
      ∗ (iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ owns (c : Thread nD τ) arg8 fullShare cd ∗ owns (c : Thread nD τ) arg9 fullShare y8 ∗ owns (c : Thread nD τ) arg10 fullShare x2 ∗ owns (c : Thread nD τ) arg11 fullShare (stepC i cd w ws tg x2 s).m ∗ owns (c : Thread nD τ) arg12 fullShare (stepC i cd w ws tg x2 s).s0 ∗ owns (c : Thread nD τ) arg13 fullShare (stepC i cd w ws tg x2 s).s1 ∗ owns (c : Thread nD τ) arg14 fullShare (stepC i cd w ws tg x2 s).s2 ∗ owns (c : Thread nD τ) arg15 fullShare (stepC i cd w ws tg x2 s).t) -∗ K ⟨⟩))
    ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lm_head_entropy_eq_skeleton]; unfold cc0_lm_head_entropy_skel
  simp only [k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H11]
  · iexists _; isplitr; swap; · iexact H11
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H12]
  · iexists _; isplitr; swap; · iexact H12
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H13]
  · iexists _; isplitr; swap; · iexact H13
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  · iexists _; isplitr; swap; · iexact H14
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl

set_option maxHeartbeats 8000000 in
/-- The body at the last point: what is carried advances one step, and the three results are stored from it. -/
theorem run_last (h1 : ¬c1 i) (h2 : ¬c2 i) (h3 : c3 i) (E : Set ℕ) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare tg ∗ (∃ d, owns (c : Thread nD τ) arg5 fullShare d) ∗ (∃ d, owns (c : Thread nD τ) arg6 fullShare d) ∗ (∃ d, owns (c : Thread nD τ) arg7 fullShare d) ∗ owns (c : Thread nD τ) arg8 fullShare cd ∗ owns (c : Thread nD τ) arg9 fullShare y8 ∗ owns (c : Thread nD τ) arg10 fullShare x2 ∗ owns (c : Thread nD τ) arg11 fullShare s.m ∗ owns (c : Thread nD τ) arg12 fullShare s.s0 ∗ owns (c : Thread nD τ) arg13 fullShare s.s1 ∗ owns (c : Thread nD τ) arg14 fullShare s.s2 ∗ owns (c : Thread nD τ) arg15 fullShare s.t
      ∗ (iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare (entOf (stepC i cd w ws tg x2 s)) ∗ owns (c : Thread nD τ) arg6 fullShare (varOf (stepC i cd w ws tg x2 s)) ∗ owns (c : Thread nD τ) arg7 fullShare (lpOf (stepC i cd w ws tg x2 s)) ∗ owns (c : Thread nD τ) arg8 fullShare cd ∗ owns (c : Thread nD τ) arg9 fullShare y8 ∗ owns (c : Thread nD τ) arg10 fullShare x2 ∗ owns (c : Thread nD τ) arg11 fullShare (stepC i cd w ws tg x2 s).m ∗ owns (c : Thread nD τ) arg12 fullShare (stepC i cd w ws tg x2 s).s0 ∗ owns (c : Thread nD τ) arg13 fullShare (stepC i cd w ws tg x2 s).s1 ∗ owns (c : Thread nD τ) arg14 fullShare (stepC i cd w ws tg x2 s).s2 ∗ owns (c : Thread nD τ) arg15 fullShare (stepC i cd w ws tg x2 s).t) -∗ K ⟨⟩))
    ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lm_head_entropy_eq_skeleton]; unfold cc0_lm_head_entropy_skel
  simp only [k0_part5_eq_skeleton, k0_part6_eq_skeleton, k0_part7_eq_skeleton, k0_part8_eq_skeleton, k0_part9_eq_skeleton, k0_part10_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H5]
  · iexists _; isplitr; swap; · iexact H5
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H6]
  · iexists _; isplitr; swap; · iexact H6
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H11]
  · iexists _; isplitr; swap; · iexact H11
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H12]
  · iexists _; isplitr; swap; · iexact H12
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H13]
  · iexists _; isplitr; swap; · iexact H13
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  · iexists _; isplitr; swap; · iexact H14
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl

set_option maxHeartbeats 8000000 in
/-- The body at the first point: codes and scales are stored, and what is carried is one step from the start. -/
theorem run_first (h1 : c1 i) (h2 : c2 i) (h3 : ¬c3 i) (E : Set ℕ) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ owns (c : Thread nD τ) arg8 fullShare (cdOf x) ∗ owns (c : Thread nD τ) arg9 fullShare (rowOf x) ∗ owns (c : Thread nD τ) arg10 fullShare (x2Of x) ∗ owns (c : Thread nD τ) arg11 fullShare (stepC i (cdOf x) w ws tg (x2Of x) (initC (cdOf x) w ws (x2Of x))).m ∗ owns (c : Thread nD τ) arg12 fullShare (stepC i (cdOf x) w ws tg (x2Of x) (initC (cdOf x) w ws (x2Of x))).s0 ∗ owns (c : Thread nD τ) arg13 fullShare (stepC i (cdOf x) w ws tg (x2Of x) (initC (cdOf x) w ws (x2Of x))).s1 ∗ owns (c : Thread nD τ) arg14 fullShare (stepC i (cdOf x) w ws tg (x2Of x) (initC (cdOf x) w ws (x2Of x))).s2 ∗ owns (c : Thread nD τ) arg15 fullShare (stepC i (cdOf x) w ws tg (x2Of x) (initC (cdOf x) w ws (x2Of x))).t) -∗ K ⟨⟩))
    ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lm_head_entropy_eq_skeleton]; unfold cc0_lm_head_entropy_skel
  simp only [k0_part5_eq_skeleton, k0_part6_eq_skeleton, k0_part7_eq_skeleton, k0_part8_eq_skeleton, k0_part9_eq_skeleton, k0_part10_eq_skeleton]
  unfold k0_part5_skel; simp only [k0_part3_eq_skeleton]; unfold k0_part3_skel; simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H8]
  · iexists _; isplitr; swap; · iexact H8
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H9]
  · iexists _; isplitr; swap; · iexact H9
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H10]
  · iexists _; isplitr; swap; · iexact H10
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H11]
  · iexists _; isplitr; swap; · iexact H11
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H12]
  · iexists _; isplitr; swap; · iexact H12
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H13]
  · iexists _; isplitr; swap; · iexact H13
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  · iexists _; isplitr; swap; · iexact H14
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl

end

end Cert.Kernel.Own

end
-- ==== Proof.KernelFrame.lean ====
/- The frame of `Cert.Kernel`: the kernel's pipeline run over its 25 grid points, what every buffer holds after each,
   and the theorem that the program terminates without fault and leaves its arguments unchanged. -/
module

public import proofs.«01_k».proof.Proof.KernelRun
public import Idealize.ShloMosaic.Lib.Pipeline.FrameBody
public import Idealize.ShloMosaic.Lib.WordCmp
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the points -/

theorem hc1 : ∀ t : Fin cfg0.N, c1 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [c1, k0_cond1, e0]
    word_cmp
   : ∀ t : Fin grid0.N, c1 (grid0.coords t) ↔ t.val % 25 = 0)

theorem hc2 : ∀ t : Fin cfg0.N, c2 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [c2, e0]
    word_cmp
   : ∀ t : Fin grid0.N, c2 (grid0.coords t) ↔ t.val % 25 = 0)

theorem hc3 : ∀ t : Fin cfg0.N, c3 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [c3, k0_cond3, e0]
    word_cmp
   : ∀ t : Fin grid0.N, c3 (grid0.coords t) ↔ t.val % 25 = 24)

/-! ## Where the windows are idle, and where they are written back -/

theorem live_in (t : Fin cfg0.N) : cfg0.idle 0 (grid0.coords t) = false ∧ cfg0.idle 1 (grid0.coords t) = false
    ∧ cfg0.idle 2 (grid0.coords t) = false ∧ cfg0.idle 3 (grid0.coords t) = false := ⟨rfl, rfl, rfl, rfl⟩
theorem idle_4 : ∀ t : Fin cfg0.N, ¬c3 (grid0.coords t) → cfg0.idle 4 (grid0.coords t) = true := by decide +kernel
theorem live_4 : ∀ t : Fin cfg0.N, c3 (grid0.coords t) → cfg0.idle 4 (grid0.coords t) = false := by decide +kernel
theorem idle_5 : ∀ t : Fin cfg0.N, ¬c3 (grid0.coords t) → cfg0.idle 5 (grid0.coords t) = true := by decide +kernel
theorem live_5 : ∀ t : Fin cfg0.N, c3 (grid0.coords t) → cfg0.idle 5 (grid0.coords t) = false := by decide +kernel
theorem idle_6 : ∀ t : Fin cfg0.N, ¬c3 (grid0.coords t) → cfg0.idle 6 (grid0.coords t) = true := by decide +kernel
theorem live_6 : ∀ t : Fin cfg0.N, c3 (grid0.coords t) → cfg0.idle 6 (grid0.coords t) = false := by decide +kernel
theorem idle_7 : ∀ t : Fin cfg0.N, ¬c1 (grid0.coords t) → cfg0.idle 7 (grid0.coords t) = true := by decide +kernel
theorem live_7 : ∀ t : Fin cfg0.N, c1 (grid0.coords t) → cfg0.idle 7 (grid0.coords t) = false := by decide +kernel
theorem idle_8 : ∀ t : Fin cfg0.N, ¬c1 (grid0.coords t) → cfg0.idle 8 (grid0.coords t) = true := by decide +kernel
theorem live_8 : ∀ t : Fin cfg0.N, c1 (grid0.coords t) → cfg0.idle 8 (grid0.coords t) = false := by decide +kernel
theorem noFlush_4 (t : Fin cfg0.N) (h : ¬t.val % 25 = 24) : (cfg0.win 4).flush t = false :=
  Bool.eq_false_iff.mpr fun hf => h ((flush0_4 t).mp hf)
theorem noFlush_5 (t : Fin cfg0.N) (h : ¬t.val % 25 = 24) : (cfg0.win 5).flush t = false :=
  Bool.eq_false_iff.mpr fun hf => h ((flush0_5 t).mp hf)
theorem noFlush_6 (t : Fin cfg0.N) (h : ¬t.val % 25 = 24) : (cfg0.win 6).flush t = false :=
  Bool.eq_false_iff.mpr fun hf => h ((flush0_6 t).mp hf)
theorem noFlush_7 (t : Fin cfg0.N) (h : ¬t.val % 25 = 24) : (cfg0.win 7).flush t = false :=
  Bool.eq_false_iff.mpr fun hf => h ((flush0_7 t).mp hf)
theorem noFlush_8 (t : Fin cfg0.N) (h : ¬t.val % 25 = 24) : (cfg0.win 8).flush t = false :=
  Bool.eq_false_iff.mpr fun hf => h ((flush0_8 t).mp hf)

/-! ## The staging and scratch memrefs -/

abbrev ms0 (t : Fin cfg0.N) : Memref sig .tc .vmem S128x4096 .bf16 := win0_0.stage (cfg0.slots t 0)
abbrev ms1 (t : Fin cfg0.N) : Memref sig .tc .vmem S1280x4096 .fp8e4m3 := win0_1.stage (cfg0.slots t 1)
abbrev ms2 (t : Fin cfg0.N) : Memref sig .tc .vmem S1x1280 .f32 := win0_2.stage (cfg0.slots t 2)
abbrev ms3 (t : Fin cfg0.N) : Memref sig .tc .vmem S128x7 .i32 := win0_3.stage (cfg0.slots t 3)
abbrev ms4 (t : Fin cfg0.N) : Memref sig .tc .vmem S1x128 .f32 := win0_4.stage (cfg0.slots t 4)
abbrev ms5 (t : Fin cfg0.N) : Memref sig .tc .vmem S1x128 .f32 := win0_5.stage (cfg0.slots t 5)
abbrev ms6 (t : Fin cfg0.N) : Memref sig .tc .vmem S128x7 .f32 := win0_6.stage (cfg0.slots t 6)
abbrev ms7 (t : Fin cfg0.N) : Memref sig .tc .vmem S128x4096 .fp8e4m3 := win0_7.stage (cfg0.slots t 7)
abbrev ms8 (t : Fin cfg0.N) : Memref sig .tc .vmem S1x128 .f32 := win0_8.stage (cfg0.slots t 8)
abbrev sc0 : Memref sig .tc .vmem S128x128 .f32 := Memref.whole cc0_scratch0
abbrev sc1 : Memref sig .tc .vmem S128x128 .f32 := Memref.whole cc0_scratch1
abbrev sc2 : Memref sig .tc .vmem S128x128 .f32 := Memref.whole cc0_scratch2
abbrev sc3 : Memref sig .tc .vmem S128x128 .f32 := Memref.whole cc0_scratch3
abbrev sc4 : Memref sig .tc .vmem S128x128 .f32 := Memref.whole cc0_scratch4
abbrev sc5 : Memref sig .tc .vmem S128x128 .f32 := Memref.whole cc0_scratch5

/-- What the launch hands the region: every scratch buffer at some contents, and the generator register. -/
theorem phiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-! ## What the buffers hold after each point -/

/-- The first point. -/
def t00 : Fin cfg0.N := ⟨0, lt_of_lt_of_eq (by decide) (show cfg0.N = 25 from N_0).symm⟩

/-- The codes the first point stores. -/
def cd0 (c : Dev nD) : Vec F S128x4096 .fp8e4m3 := cdOf (iblk m c 0 t00)
/-- The scale row the first point stores. -/
def row0 (c : Dev nD) : Vec F S1x128 .f32 := rowOf (iblk m c 0 t00)
/-- The row scales the first point stores. -/
def x20 (c : Dev nD) : A F := x2Of (iblk m c 0 t00)

/-- What is carried after point `n`. -/
def carry (c : Dev nD) : (n : ℕ) → n < cfg0.N → Carry F
  | 0, h => stepC (grid0.coords ⟨0, h⟩) (cd0 m c) (iblk m c 1 ⟨0, h⟩) (iblk m c 2 ⟨0, h⟩) (iblk m c 3 ⟨0, h⟩) (x20 m c)
      (initC (cd0 m c) (iblk m c 1 ⟨0, h⟩) (iblk m c 2 ⟨0, h⟩) (x20 m c))
  | n + 1, h => stepC (grid0.coords ⟨n + 1, h⟩) (cd0 m c) (iblk m c 1 ⟨n + 1, h⟩) (iblk m c 2 ⟨n + 1, h⟩) (iblk m c 3 ⟨n + 1, h⟩) (x20 m c)
      (carry c n (Nat.lt_of_succ_lt h))

/-- The invariant before point `n`: the scratch buffers at what is carried. -/
def PhiS (c : Dev nD) : (n : ℕ) → n ≤ cfg0.N → sProp 𝕄
  | 0, _ => Pipeline.ΦA spec0 c
  | n + 1, hn => iprop(iprop(owns (c : Thread nD τ) sc0 fullShare (x20 m c) ∗ owns (c : Thread nD τ) sc1 fullShare (carry m c n hn).m ∗ owns (c : Thread nD τ) sc2 fullShare (carry m c n hn).s0 ∗ owns (c : Thread nD τ) sc3 fullShare (carry m c n hn).s1 ∗ owns (c : Thread nD τ) sc4 fullShare (carry m c n hn).s2 ∗ owns (c : Thread nD τ) sc5 fullShare (carry m c n hn).t) ∗ (∃ r, prngReg c r))

/-- The pipeline's proof data: what every staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => entOf (carry m c t.val t.isLt)
    | ⟨5, _⟩ => varOf (carry m c t.val t.isLt)
    | ⟨6, _⟩ => lpOf (carry m c t.val t.isLt)
    | ⟨7, _⟩ => cd0 m c
    | ⟨8, _⟩ => row0 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = entOf (carry m c t.val t.isLt) := by dsimp only [dats]
theorem after_5 (c : Dev nD) (t : Fin cfg0.N) : (dats m 0 c).after 5 t = varOf (carry m c t.val t.isLt) := by dsimp only [dats]
theorem after_6 (c : Dev nD) (t : Fin cfg0.N) : (dats m 0 c).after 6 t = lpOf (carry m c t.val t.isLt) := by dsimp only [dats]
theorem after_7 (c : Dev nD) (t : Fin cfg0.N) : (dats m 0 c).after 7 t = cd0 m c := by dsimp only [dats]
theorem after_8 (c : Dev nD) (t : Fin cfg0.N) : (dats m 0 c).after 8 t = row0 m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point the buffer of window 7 holds what the first point stored. -/
theorem before_7 (c : Dev nD) (d) : ∀ (n : ℕ) (h : n + 1 < cfg0.N), (dats m 0 c).before 7 ⟨n + 1, h⟩ d = cd0 m c
  | 0, h => by
    rw [Dat.before_of_pos _ 7 ⟨0 + 1, h⟩ (Nat.succ_ne_zero _) rfl, if_neg (by rw [noFlush_7 _ (by dsimp only; omega)]; exact Bool.false_ne_true)]
    unfold Dat.left
    rw [live_7 _ ((hc1 _).mpr (by dsimp only))]
    exact (after_7 m c _)
  | n + 1, h => by
    have hN : n + 1 + 1 < 25 := lt_of_lt_of_eq h (show cfg0.N = 25 from N_0)
    rw [Dat.before_of_pos _ 7 ⟨n + 1 + 1, h⟩ (Nat.succ_ne_zero _) rfl, if_neg (by rw [noFlush_7 _ (by dsimp only; omega)]; exact Bool.false_ne_true)]
    unfold Dat.left
    rw [idle_7 _ (fun hh => by have := (hc1 _).mp hh; dsimp only at this; omega)]
    exact before_7 c d n (Nat.lt_of_succ_lt h)

/-- After the first point the buffer of window 8 holds what the first point stored. -/
theorem before_8 (c : Dev nD) (d) : ∀ (n : ℕ) (h : n + 1 < cfg0.N), (dats m 0 c).before 8 ⟨n + 1, h⟩ d = row0 m c
  | 0, h => by
    rw [Dat.before_of_pos _ 8 ⟨0 + 1, h⟩ (Nat.succ_ne_zero _) rfl, if_neg (by rw [noFlush_8 _ (by dsimp only; omega)]; exact Bool.false_ne_true)]
    unfold Dat.left
    rw [live_8 _ ((hc1 _).mpr (by dsimp only))]
    exact (after_8 m c _)
  | n + 1, h => by
    have hN : n + 1 + 1 < 25 := lt_of_lt_of_eq h (show cfg0.N = 25 from N_0)
    rw [Dat.before_of_pos _ 8 ⟨n + 1 + 1, h⟩ (Nat.succ_ne_zero _) rfl, if_neg (by rw [noFlush_8 _ (by dsimp only; omega)]; exact Bool.false_ne_true)]
    unfold Dat.left
    rw [idle_8 _ (fun hh => by have := (hc1 _).mp hh; dsimp only at this; omega)]
    exact before_8 c d n (Nat.lt_of_succ_lt h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_live_0 (c : Dev nD) (t : Fin cfg0.N) (h : cfg0.idle 0 (grid0.coords t) = false) :
    (dats m 0 c).leavesExact 0 t = owns (c : Thread nD τ) (ms0 t) fullShare (iblk m c 0 t) := by
  unfold Dat.leavesExact; rw [h, after_0]
theorem leaves_live_1 (c : Dev nD) (t : Fin cfg0.N) (h : cfg0.idle 1 (grid0.coords t) = false) :
    (dats m 0 c).leavesExact 1 t = owns (c : Thread nD τ) (ms1 t) fullShare (iblk m c 1 t) := by
  unfold Dat.leavesExact; rw [h, after_1]
theorem leaves_live_2 (c : Dev nD) (t : Fin cfg0.N) (h : cfg0.idle 2 (grid0.coords t) = false) :
    (dats m 0 c).leavesExact 2 t = owns (c : Thread nD τ) (ms2 t) fullShare (iblk m c 2 t) := by
  unfold Dat.leavesExact; rw [h, after_2]
theorem leaves_live_3 (c : Dev nD) (t : Fin cfg0.N) (h : cfg0.idle 3 (grid0.coords t) = false) :
    (dats m 0 c).leavesExact 3 t = owns (c : Thread nD τ) (ms3 t) fullShare (iblk m c 3 t) := by
  unfold Dat.leavesExact; rw [h, after_3]
theorem leaves_live_4 (c : Dev nD) (t : Fin cfg0.N) (h : cfg0.idle 4 (grid0.coords t) = false) :
    (dats m 0 c).leavesExact 4 t = owns (c : Thread nD τ) (ms4 t) fullShare (entOf (carry m c t.val t.isLt)) := by
  unfold Dat.leavesExact; rw [h, after_4]
theorem leaves_live_5 (c : Dev nD) (t : Fin cfg0.N) (h : cfg0.idle 5 (grid0.coords t) = false) :
    (dats m 0 c).leavesExact 5 t = owns (c : Thread nD τ) (ms5 t) fullShare (varOf (carry m c t.val t.isLt)) := by
  unfold Dat.leavesExact; rw [h, after_5]
theorem leaves_live_6 (c : Dev nD) (t : Fin cfg0.N) (h : cfg0.idle 6 (grid0.coords t) = false) :
    (dats m 0 c).leavesExact 6 t = owns (c : Thread nD τ) (ms6 t) fullShare (lpOf (carry m c t.val t.isLt)) := by
  unfold Dat.leavesExact; rw [h, after_6]
theorem leaves_live_7 (c : Dev nD) (t : Fin cfg0.N) (h : cfg0.idle 7 (grid0.coords t) = false) :
    (dats m 0 c).leavesExact 7 t = owns (c : Thread nD τ) (ms7 t) fullShare (cd0 m c) := by
  unfold Dat.leavesExact; rw [h, after_7]
theorem leaves_live_8 (c : Dev nD) (t : Fin cfg0.N) (h : cfg0.idle 8 (grid0.coords t) = false) :
    (dats m 0 c).leavesExact 8 t = owns (c : Thread nD τ) (ms8 t) fullShare (row0 m c) := by
  unfold Dat.leavesExact; rw [h, after_8]
theorem leaves_flush_7 (c : Dev nD) (t : Fin cfg0.N) (h : cfg0.idle 7 (grid0.coords t) = true) (hf : (cfg0.win 7).flush t = true) :
    (dats m 0 c).leavesExact 7 t = owns (c : Thread nD τ) (ms7 t) fullShare (cd0 m c) := by
  unfold Dat.leavesExact; rw [h, hf, after_7]
theorem leaves_flush_8 (c : Dev nD) (t : Fin cfg0.N) (h : cfg0.idle 8 (grid0.coords t) = true) (hf : (cfg0.win 8).flush t = true) :
    (dats m 0 c).leavesExact 8 t = owns (c : Thread nD τ) (ms8 t) fullShare (row0 m c) := by
  unfold Dat.leavesExact; rw [h, hf, after_8]

set_option maxHeartbeats 4000000 in
/-- The body at any point keeps the invariant and leaves the buffers as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = PhiS m c (t.val + 1) t.isLt from rfl, PhiS_castSucc m c t,
    leaves_live_0 m c t rfl, leaves_live_1 m c t rfl, leaves_live_2 m c t rfl, leaves_live_3 m c t rfl]
  have hN : t.val < 25 := lt_of_lt_of_eq t.isLt (show cfg0.N = 25 from N_0)
  obtain ⟨n, hn⟩ := t
  cases n with
  | zero =>
    have h1 : c1 (grid0.coords ⟨0, hn⟩) := (hc1 _).mpr rfl
    have h2 : c2 (grid0.coords ⟨0, hn⟩) := (hc2 _).mpr rfl
    have h3 : ¬c3 (grid0.coords ⟨0, hn⟩) := fun h => by have := (hc3 _).mp h; dsimp only at this; omega
    rw [Dat.leavesExact_idle (dats m 0 c) 4 _ (idle_4 _ h3) (noFlush_4 _ (by dsimp only; omega)),
      Dat.leavesExact_idle (dats m 0 c) 5 _ (idle_5 _ h3) (noFlush_5 _ (by dsimp only; omega)),
      Dat.leavesExact_idle (dats m 0 c) 6 _ (idle_6 _ h3) (noFlush_6 _ (by dsimp only; omega)),
      leaves_live_7 m c _ (live_7 _ h1), leaves_live_8 m c _ (live_8 _ h1)]
    rw [show PhiS m c (⟨0, hn⟩ : Fin cfg0.N).val (Nat.le_of_lt hn) = Pipeline.ΦA spec0 c from rfl, phiA_eq]
    unfold PhiS carry
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords ⟨0, hn⟩) _ _ _ _ _ _ _ _ _ _ _ _ _ _ _ _ _ _ _ _ _ _ _ _ _ _ _ _ _ _ (iblk m c 0 ⟨0, hn⟩) (iblk m c 1 ⟨0, hn⟩) (iblk m c 2 ⟨0, hn⟩) (iblk m c 3 ⟨0, hn⟩) _ _ _ h1 h2 h3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    iexact H8
  | succ n =>
    have h1 : ¬c1 (grid0.coords ⟨n + 1, hn⟩) := fun h => by have := (hc1 _).mp h; dsimp only at this hN; omega
    have h2 : ¬c2 (grid0.coords ⟨n + 1, hn⟩) := fun h => by have := (hc2 _).mp h; dsimp only at this hN; omega
    rw [show PhiS m c (⟨n + 1, hn⟩ : Fin cfg0.N).val (Nat.le_of_lt hn) = PhiS m c (n + 1) (Nat.le_of_lt hn) from rfl]
    by_cases h24 : n + 1 = 24
    · have h3 : c3 (grid0.coords ⟨n + 1, hn⟩) := (hc3 _).mpr (by dsimp only; omega)
      rw [leaves_live_4 m c _ (live_4 _ h3), leaves_live_5 m c _ (live_5 _ h3), leaves_live_6 m c _ (live_6 _ h3),
        leaves_flush_7 m c _ (idle_7 _ h1) ((flush0_7 _).mpr (by dsimp only; omega)), leaves_flush_8 m c _ (idle_8 _ h1) ((flush0_8 _).mpr (by dsimp only; omega))]
      simp only [before_7, before_8, PhiS, carry]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords ⟨n + 1, hn⟩) _ _ _ _ _ _ _ _ _ _ _ _ _ _ _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) (cd0 m c) (row0 m c) (x20 m c) (carry m c n (Nat.lt_of_succ_lt hn)) h1 h2 h3 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hN' : n + 1 < 25 := hN
      have h3 : ¬c3 (grid0.coords ⟨n + 1, hn⟩) := fun h => by have := (hc3 _).mp h; dsimp only at this hN; omega
      rw [Dat.leavesExact_idle (dats m 0 c) 4 _ (idle_4 _ h3) (noFlush_4 _ (by dsimp only; omega)),
        Dat.leavesExact_idle (dats m 0 c) 5 _ (idle_5 _ h3) (noFlush_5 _ (by dsimp only; omega)),
        Dat.leavesExact_idle (dats m 0 c) 6 _ (idle_6 _ h3) (noFlush_6 _ (by dsimp only; omega)),
        Dat.leavesExact_idle (dats m 0 c) 7 _ (idle_7 _ h1) (noFlush_7 _ (by dsimp only; omega)),
        Dat.leavesExact_idle (dats m 0 c) 8 _ (idle_8 _ h1) (noFlush_8 _ (by dsimp only; omega))]
      simp only [before_7, before_8, PhiS, carry]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords ⟨n + 1, hn⟩) _ _ _ _ _ _ _ _ _ _ _ _ _ _ _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) _ _ _ (cd0 m c) (row0 m c) (x20 m c) (carry m c n (Nat.lt_of_succ_lt hn)) h1 h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists d7; iexact H7
      iexists d8; iexact H8

theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  have hN : cfg0.N = 24 + 1 := N_0
  rw [show (dats m 0 c).Φ (Fin.last cfg0.N) = PhiS m c (24 + 1) (Nat.le_of_eq hN.symm) from rfl, phiA_eq]
  unfold PhiS
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

set_option backward.isDefEq.respectTransparency.types false in
/-- The program runs to what the proof data say, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program terminates without fault, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Own

end
-- ==== Proof.KernelIdealStep.lean ====
/- What the body of `Cert.KernelIdeal`'s kernel computes at one grid point, as functions of what its buffers hold.
   `zTile` is the scaled logit tile `k` of the point's block of 1280 columns; `Carry` is what the kernel carries from
   point to point; `stepC` is one point's update of it; `initC` is what the first point starts from. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- A 128 × 128 array of 32-bit floats. -/
abbrev A (F : FTy → Type) := Vec F S128x128 .f32

/-- The 128 columns of the block of weight scales that start at column `o`. -/
def wsTile (ws : Vec F S1x1280 .f32) (o : Nat) (h : ∀ a, (![0, o] : Fin 2 → Nat) a + S1x128.size a ≤ S1x1280.size a) : Vec F S1x128 .f32 :=
  VecWindow.window (s := S1x1280) ws ![0, o] S1x128.size h

/-- Tile 0 of the point's scaled logits: product of codes and weights, times the row scale, times the weight scale. -/
def z0 (cd : Vec F S128x4096 .fp8e4m3) (w : Vec F S1280x4096 .fp8e4m3) (ws : Vec F S1x1280 .f32) (x2 : A F) : A F :=
  k0_pay30 cd w x2 (wsTile ws 0 inb_S1x1280_S1x128_0_0)

/-- Tile 1 of the point's scaled logits: product of codes and weights, times the row scale, times the weight scale. -/
def z1 (cd : Vec F S128x4096 .fp8e4m3) (w : Vec F S1280x4096 .fp8e4m3) (ws : Vec F S1x1280 .f32) (x2 : A F) : A F :=
  k0_pay31 cd w x2 (wsTile ws 128 inb_S1x1280_S1x128_0_128)

/-- Tile 2 of the point's scaled logits: product of codes and weights, times the row scale, times the weight scale. -/
def z2 (cd : Vec F S128x4096 .fp8e4m3) (w : Vec F S1280x4096 .fp8e4m3) (ws : Vec F S1x1280 .f32) (x2 : A F) : A F :=
  k0_pay32 cd w x2 (wsTile ws 256 inb_S1x1280_S1x128_0_256)

/-- Tile 3 of the point's scaled logits: product of codes and weights, times the row scale, times the weight scale. -/
def z3 (cd : Vec F S128x4096 .fp8e4m3) (w : Vec F S1280x4096 .fp8e4m3) (ws : Vec F S1x1280 .f32) (x2 : A F) : A F :=
  k0_pay33 cd w x2 (wsTile ws 384 inb_S1x1280_S1x128_0_384)

/-- Tile 4 of the point's scaled logits: product of codes and weights, times the row scale, times the weight scale. -/
def z4 (cd : Vec F S128x4096 .fp8e4m3) (w : Vec F S1280x4096 .fp8e4m3) (ws : Vec F S1x1280 .f32) (x2 : A F) : A F :=
  k0_pay34 cd w x2 (wsTile ws 512 inb_S1x1280_S1x128_0_512)

/-- Tile 5 of the point's scaled logits: product of codes and weights, times the row scale, times the weight scale. -/
def z5 (cd : Vec F S128x4096 .fp8e4m3) (w : Vec F S1280x4096 .fp8e4m3) (ws : Vec F S1x1280 .f32) (x2 : A F) : A F :=
  k0_pay36 x2 (k0_pay35 cd w) (wsTile ws 640 inb_S1x1280_S1x128_0_640)

/-- Tile 6 of the point's scaled logits: product of codes and weights, times the row scale, times the weight scale. -/
def z6 (cd : Vec F S128x4096 .fp8e4m3) (w : Vec F S1280x4096 .fp8e4m3) (ws : Vec F S1x1280 .f32) (x2 : A F) : A F :=
  k0_pay37 (k0_pay29 cd w) x2 (wsTile ws 768 inb_S1x1280_S1x128_0_768)

/-- Tile 7 of the point's scaled logits: product of codes and weights, times the row scale, times the weight scale. -/
def z7 (cd : Vec F S128x4096 .fp8e4m3) (w : Vec F S1280x4096 .fp8e4m3) (ws : Vec F S1x1280 .f32) (x2 : A F) : A F :=
  k0_pay38 (k0_pay29 cd w) x2 (wsTile ws 896 inb_S1x1280_S1x128_0_896)

/-- Tile 8 of the point's scaled logits: product of codes and weights, times the row scale, times the weight scale. -/
def z8 (cd : Vec F S128x4096 .fp8e4m3) (w : Vec F S1280x4096 .fp8e4m3) (ws : Vec F S1x1280 .f32) (x2 : A F) : A F :=
  k0_pay39 (k0_pay29 cd w) x2 (wsTile ws 1024 inb_S1x1280_S1x128_0_1024)

/-- Tile 9 of the point's scaled logits: product of codes and weights, times the row scale, times the weight scale. -/
def z9 (cd : Vec F S128x4096 .fp8e4m3) (w : Vec F S1280x4096 .fp8e4m3) (ws : Vec F S1x1280 .f32) (x2 : A F) : A F :=
  k0_pay40 (k0_pay29 cd w) x2 (wsTile ws 1152 inb_S1x1280_S1x128_0_1152)

/-- What the kernel carries from point to point: the running lane maxima, the three running sums, and the gathered
    target logits. -/
structure Carry (F : FTy → Type) where
  m : A F
  s0 : A F
  s1 : A F
  s2 : A F
  t : A F

section
variable (z0 z1 z2 z3 z4 z5 z6 z7 z8 z9 : A F) (tl tt : IVec S128x128 32) (s : Carry F)

/-- The new lane maxima. -/
def newM : A F := k0_pay49 z0 z1 z2 z3 z4 z5 z6 z7 z8 z9 s.m
/-- The new sums of exponentials. -/
def newS0 : A F := k0_pay99 z7 z8 z9 (newM z0 z1 z2 z3 z4 z5 z6 z7 z8 z9 s) (k0_pay84 z4 z5 z6 (newM z0 z1 z2 z3 z4 z5 z6 z7 z8 z9 s)
  (k0_pay70 z1 z2 z3 (newM z0 z1 z2 z3 z4 z5 z6 z7 z8 z9 s) (k0_pay55 z0 z1 z2 z3 z4 z5 z6 z7 z8 z9 s.m s.s0)))
/-- The new sums of exponentials times distance to the maximum. -/
def newS1 : A F := k0_pay100 z7 z8 z9 (newM z0 z1 z2 z3 z4 z5 z6 z7 z8 z9 s) (k0_pay85 z4 z5 z6 (newM z0 z1 z2 z3 z4 z5 z6 z7 z8 z9 s)
  (k0_pay71 z1 z2 z3 (newM z0 z1 z2 z3 z4 z5 z6 z7 z8 z9 s) (k0_pay56 z0 z1 z2 z3 z4 z5 z6 z7 z8 z9 s.m s.s0 s.s1)))
/-- The new sums of exponentials times squared distance to the maximum. -/
def newS2 : A F := k0_pay101 z7 z8 z9 (newM z0 z1 z2 z3 z4 z5 z6 z7 z8 z9 s) (k0_pay86 z4 z5 z6 (newM z0 z1 z2 z3 z4 z5 z6 z7 z8 z9 s)
  (k0_pay72 z1 z2 z3 (newM z0 z1 z2 z3 z4 z5 z6 z7 z8 z9 s) (k0_pay57 z0 z1 z2 z3 z4 z5 z6 z7 z8 z9 s.m s.s0 s.s1 s.s2)))
/-- The gathered target logits after tiles 0 to 8. -/
def preT : A F := k0_pay95 z6 z7 z8 tl tt (k0_pay80 z3 z4 z5 tl tt (k0_pay66 z1 z2 tl tt s.t (k0_pay58 z0 tl) k0_pay59) (k0_pay73 tl)) (k0_pay87 tl) (k0_pay88 tl)
/-- The gathered target logits after all ten tiles. -/
def newT : A F := k0_pay1 z9 tl tt (preT z0 z1 z2 z3 z4 z5 z6 z7 z8 tl tt s) (k0_pay102 tl)

end

section
variable (i : grid0.Coords) (cd : Vec F S128x4096 .fp8e4m3) (w : Vec F S1280x4096 .fp8e4m3) (ws : Vec F S1x1280 .f32) (tg : Vec F S128x7 .i32) (x2 : A F) (s : Carry F)

/-- One point's update of what is carried. -/
def stepC : Carry F where
  m := newM (z0 cd w ws x2) (z1 cd w ws x2) (z2 cd w ws x2) (z3 cd w ws x2) (z4 cd w ws x2) (z5 cd w ws x2) (z6 cd w ws x2) (z7 cd w ws x2) (z8 cd w ws x2) (z9 cd w ws x2) s
  s0 := newS0 (z0 cd w ws x2) (z1 cd w ws x2) (z2 cd w ws x2) (z3 cd w ws x2) (z4 cd w ws x2) (z5 cd w ws x2) (z6 cd w ws x2) (z7 cd w ws x2) (z8 cd w ws x2) (z9 cd w ws x2) s
  s1 := newS1 (z0 cd w ws x2) (z1 cd w ws x2) (z2 cd w ws x2) (z3 cd w ws x2) (z4 cd w ws x2) (z5 cd w ws x2) (z6 cd w ws x2) (z7 cd w ws x2) (z8 cd w ws x2) (z9 cd w ws x2) s
  s2 := newS2 (z0 cd w ws x2) (z1 cd w ws x2) (z2 cd w ws x2) (z3 cd w ws x2) (z4 cd w ws x2) (z5 cd w ws x2) (z6 cd w ws x2) (z7 cd w ws x2) (z8 cd w ws x2) (z9 cd w ws x2) s
  t := newT (z0 cd w ws x2) (z1 cd w ws x2) (z2 cd w ws x2) (z3 cd w ws x2) (z4 cd w ws x2) (z5 cd w ws x2) (z6 cd w ws x2) (z7 cd w ws x2) (z8 cd w ws x2) (z9 cd w ws x2) (k0_pay46 (F := F) tg) (k0_pay48 (k0_pay47 (F := F) tg) (Scalar.muli (BitVec.ofNat 32 (i 0).val) 10#32)) s

/-- What the first point starts from: the first tile as the lane maxima, and zeros. -/
def initC : Carry F where
  m := z0 cd w ws x2
  s0 := k0_pay42
  s1 := k0_pay43
  s2 := k0_pay44
  t := k0_pay19

end

/-- The entropies from what is carried. -/
def entOf (s : Carry F) : Vec F S1x128 .f32 := k0_pay26 s.m s.s0 s.s1
/-- The varentropies from what is carried. -/
def varOf (s : Carry F) : Vec F S1x128 .f32 := k0_pay27 s.m s.s0 s.s1 s.s2
/-- The target log-probabilities from what is carried. -/
def lpOf (s : Carry F) : Vec F S128x7 .f32 :=
  extractStridedSlice S128x7 ![0, 0] (mulf (subf s.t (k0_pay28 s.m s.s0)) (broadcast S128x128 (Named.named κ "ln2" 0x3F317218#32))) slices_S128x128_o0_0_S128x7

/-- The scale row the first point stores. -/
def rowOf (x : Vec F S128x4096 .bf16) : Vec F S1x128 .f32 :=
  k0_pay16 (k0_pay12 (k0_pay9 x) (k0_pay10 x) (k0_pay11 x)) (k0_pay13 (k0_pay9 x) (k0_pay10 x) (k0_pay11 x)) 126#32
/-- The row scales times log2 e the first point stores. -/
def x2Of (x : Vec F S128x4096 .bf16) : A F :=
  k0_pay17 (k0_pay12 (k0_pay9 x) (k0_pay10 x) (k0_pay11 x)) (k0_pay13 (k0_pay9 x) (k0_pay10 x) (k0_pay11 x)) 126#32
/-- The fp8 codes the first point stores. -/
def cdOf (x : Vec F S128x4096 .bf16) : Vec F S128x4096 .fp8e4m3 :=
  k0_pay18 (k0_pay8 x) (k0_pay12 (k0_pay9 x) (k0_pay10 x) (k0_pay11 x)) (k0_pay13 (k0_pay9 x) (k0_pay10 x) (k0_pay11 x)) 126#32

end Cert.KernelIdeal.Own

end
-- ==== Proof.KernelIdealRun.lean ====
/- The body of `Cert.KernelIdeal`'s kernel run once at a grid point, on any staging buffers: the first point (`run_first`), a
   point in the middle (`run_mid`) and the last point (`run_last`), each with what every buffer holds afterwards. -/
module

public import proofs.«01_k».proof.Proof.KernelIdealStep

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

/-- The condition of the body's first branch (first point). -/
abbrev c1 (i : grid0.Coords) : Prop := k0_cond1 i = 1#1
/-- The condition of the body's second branch (first point). -/
abbrev c2 (i : grid0.Coords) : Prop := (Scalar.cmpi .ne (Scalar.extui (Scalar.cmpi .eq (BitVec.ofNat 32 (i 0).val) 0#32)) 0#32) = 1#1
/-- The condition of the body's third branch (last point). -/
abbrev c3 (i : grid0.Coords) : Prop := k0_cond3 i = 1#1

theorem read_tile {κ : Kind} {sp : Space} (v : View sig κ sp S1x1280 .f32) (f : v.ty.Contents (Elt F)) (o : Nat)
    (h : ∀ a, (![0, o] : Fin 2 → Nat) a + S1x128.size a ≤ S1x1280.size a) :
    v.readAt (Elt F) (Rect.unit (s := S1x1280) ![0, o] S1x128.size h).toLoadRect f = wsTile (v.read (Elt F) f) o h :=
  View.readAt_unit v f h rfl h

theorem rw_a {κ : Kind} {sp : Space} {e : EltTy} (v : View sig κ sp S128x128 e) (f : v.ty.Contents (Elt F)) (inb : ∀ a, (![0, 0] : Fin 2 → Nat) a + (![128, 128] : Fin 2 → Nat) a ≤ S128x128.size a)
    (w : (Rect.unit (s := S128x128) ![0, 0] ![128, 128] inb).shape.Idx → Elt F e) (L : List (View.Piece (Elt F) S128x128 e)) :
    v.read (Elt F) (v.writes (Elt F) f (⟨Rect.unit (s := S128x128) ![0, 0] ![128, 128] inb, w⟩ :: L)) = w := View.read_writes_full v f inb w L
theorem ra_a {κ : Kind} {sp : Space} {e : EltTy} (v : View sig κ sp S128x128 e) (f : v.ty.Contents (Elt F)) (inb : ∀ a, (![0, 0] : Fin 2 → Nat) a + (![128, 128] : Fin 2 → Nat) a ≤ S128x128.size a) :
    v.readAt (Elt F) (Rect.unit (s := S128x128) ![0, 0] ![128, 128] inb).toLoadRect f = v.read (Elt F) f := View.readAt_full v f inb
theorem rc_a {κ : Kind} {sp : Space} {e : EltTy} (v : View sig κ sp S128x128 e) (inb inb' : ∀ a, (![0, 0] : Fin 2 → Nat) a + (![128, 128] : Fin 2 → Nat) a ≤ S128x128.size a)
    (w : (Rect.unit (s := S128x128) ![0, 0] ![128, 128] inb).shape.Idx → Elt F e) (L : List (View.Piece (Elt F) S128x128 e)) :
    v.readCov (⟨Rect.unit (s := S128x128) ![0, 0] ![128, 128] inb, w⟩ :: L) (Rect.unit (s := S128x128) ![0, 0] ![128, 128] inb').toLoadRect = w := View.readCov_full v inb' inb w L
theorem rw_b {κ : Kind} {sp : Space} {e : EltTy} (v : View sig κ sp S128x4096 e) (f : v.ty.Contents (Elt F)) (inb : ∀ a, (![0, 0] : Fin 2 → Nat) a + (![128, 4096] : Fin 2 → Nat) a ≤ S128x4096.size a)
    (w : (Rect.unit (s := S128x4096) ![0, 0] ![128, 4096] inb).shape.Idx → Elt F e) (L : List (View.Piece (Elt F) S128x4096 e)) :
    v.read (Elt F) (v.writes (Elt F) f (⟨Rect.unit (s := S128x4096) ![0, 0] ![128, 4096] inb, w⟩ :: L)) = w := View.read_writes_full v f inb w L
theorem ra_b {κ : Kind} {sp : Space} {e : EltTy} (v : View sig κ sp S128x4096 e) (f : v.ty.Contents (Elt F)) (inb : ∀ a, (![0, 0] : Fin 2 → Nat) a + (![128, 4096] : Fin 2 → Nat) a ≤ S128x4096.size a) :
    v.readAt (Elt F) (Rect.unit (s := S128x4096) ![0, 0] ![128, 4096] inb).toLoadRect f = v.read (Elt F) f := View.readAt_full v f inb
theorem rc_b {κ : Kind} {sp : Space} {e : EltTy} (v : View sig κ sp S128x4096 e) (inb inb' : ∀ a, (![0, 0] : Fin 2 → Nat) a + (![128, 4096] : Fin 2 → Nat) a ≤ S128x4096.size a)
    (w : (Rect.unit (s := S128x4096) ![0, 0] ![128, 4096] inb).shape.Idx → Elt F e) (L : List (View.Piece (Elt F) S128x4096 e)) :
    v.readCov (⟨Rect.unit (s := S128x4096) ![0, 0] ![128, 4096] inb, w⟩ :: L) (Rect.unit (s := S128x4096) ![0, 0] ![128, 4096] inb').toLoadRect = w := View.readCov_full v inb' inb w L
theorem rw_c {κ : Kind} {sp : Space} {e : EltTy} (v : View sig κ sp S1280x4096 e) (f : v.ty.Contents (Elt F)) (inb : ∀ a, (![0, 0] : Fin 2 → Nat) a + (![1280, 4096] : Fin 2 → Nat) a ≤ S1280x4096.size a)
    (w : (Rect.unit (s := S1280x4096) ![0, 0] ![1280, 4096] inb).shape.Idx → Elt F e) (L : List (View.Piece (Elt F) S1280x4096 e)) :
    v.read (Elt F) (v.writes (Elt F) f (⟨Rect.unit (s := S1280x4096) ![0, 0] ![1280, 4096] inb, w⟩ :: L)) = w := View.read_writes_full v f inb w L
theorem ra_c {κ : Kind} {sp : Space} {e : EltTy} (v : View sig κ sp S1280x4096 e) (f : v.ty.Contents (Elt F)) (inb : ∀ a, (![0, 0] : Fin 2 → Nat) a + (![1280, 4096] : Fin 2 → Nat) a ≤ S1280x4096.size a) :
    v.readAt (Elt F) (Rect.unit (s := S1280x4096) ![0, 0] ![1280, 4096] inb).toLoadRect f = v.read (Elt F) f := View.readAt_full v f inb
theorem rc_c {κ : Kind} {sp : Space} {e : EltTy} (v : View sig κ sp S1280x4096 e) (inb inb' : ∀ a, (![0, 0] : Fin 2 → Nat) a + (![1280, 4096] : Fin 2 → Nat) a ≤ S1280x4096.size a)
    (w : (Rect.unit (s := S1280x4096) ![0, 0] ![1280, 4096] inb).shape.Idx → Elt F e) (L : List (View.Piece (Elt F) S1280x4096 e)) :
    v.readCov (⟨Rect.unit (s := S1280x4096) ![0, 0] ![1280, 4096] inb, w⟩ :: L) (Rect.unit (s := S1280x4096) ![0, 0] ![1280, 4096] inb').toLoadRect = w := View.readCov_full v inb' inb w L
theorem rw_d {κ : Kind} {sp : Space} {e : EltTy} (v : View sig κ sp S1x128 e) (f : v.ty.Contents (Elt F)) (inb : ∀ a, (![0, 0] : Fin 2 → Nat) a + (![1, 128] : Fin 2 → Nat) a ≤ S1x128.size a)
    (w : (Rect.unit (s := S1x128) ![0, 0] ![1, 128] inb).shape.Idx → Elt F e) (L : List (View.Piece (Elt F) S1x128 e)) :
    v.read (Elt F) (v.writes (Elt F) f (⟨Rect.unit (s := S1x128) ![0, 0] ![1, 128] inb, w⟩ :: L)) = w := View.read_writes_full v f inb w L
theorem ra_d {κ : Kind} {sp : Space} {e : EltTy} (v : View sig κ sp S1x128 e) (f : v.ty.Contents (Elt F)) (inb : ∀ a, (![0, 0] : Fin 2 → Nat) a + (![1, 128] : Fin 2 → Nat) a ≤ S1x128.size a) :
    v.readAt (Elt F) (Rect.unit (s := S1x128) ![0, 0] ![1, 128] inb).toLoadRect f = v.read (Elt F) f := View.readAt_full v f inb
theorem rc_d {κ : Kind} {sp : Space} {e : EltTy} (v : View sig κ sp S1x128 e) (inb inb' : ∀ a, (![0, 0] : Fin 2 → Nat) a + (![1, 128] : Fin 2 → Nat) a ≤ S1x128.size a)
    (w : (Rect.unit (s := S1x128) ![0, 0] ![1, 128] inb).shape.Idx → Elt F e) (L : List (View.Piece (Elt F) S1x128 e)) :
    v.readCov (⟨Rect.unit (s := S1x128) ![0, 0] ![1, 128] inb, w⟩ :: L) (Rect.unit (s := S1x128) ![0, 0] ![1, 128] inb').toLoadRect = w := View.readCov_full v inb' inb w L
theorem rw_e {κ : Kind} {sp : Space} {e : EltTy} (v : View sig κ sp S128x7 e) (f : v.ty.Contents (Elt F)) (inb : ∀ a, (![0, 0] : Fin 2 → Nat) a + (![128, 7] : Fin 2 → Nat) a ≤ S128x7.size a)
    (w : (Rect.unit (s := S128x7) ![0, 0] ![128, 7] inb).shape.Idx → Elt F e) (L : List (View.Piece (Elt F) S128x7 e)) :
    v.read (Elt F) (v.writes (Elt F) f (⟨Rect.unit (s := S128x7) ![0, 0] ![128, 7] inb, w⟩ :: L)) = w := View.read_writes_full v f inb w L
theorem ra_e {κ : Kind} {sp : Space} {e : EltTy} (v : View sig κ sp S128x7 e) (f : v.ty.Contents (Elt F)) (inb : ∀ a, (![0, 0] : Fin 2 → Nat) a + (![128, 7] : Fin 2 → Nat) a ≤ S128x7.size a) :
    v.readAt (Elt F) (Rect.unit (s := S128x7) ![0, 0] ![128, 7] inb).toLoadRect f = v.read (Elt F) f := View.readAt_full v f inb
theorem rc_e {κ : Kind} {sp : Space} {e : EltTy} (v : View sig κ sp S128x7 e) (inb inb' : ∀ a, (![0, 0] : Fin 2 → Nat) a + (![128, 7] : Fin 2 → Nat) a ≤ S128x7.size a)
    (w : (Rect.unit (s := S128x7) ![0, 0] ![128, 7] inb).shape.Idx → Elt F e) (L : List (View.Piece (Elt F) S128x7 e)) :
    v.readCov (⟨Rect.unit (s := S128x7) ![0, 0] ![128, 7] inb, w⟩ :: L) (Rect.unit (s := S128x7) ![0, 0] ![128, 7] inb').toLoadRect = w := View.readCov_full v inb' inb w L
theorem read_tile' {κ : Kind} {sp : Space} (v : View sig κ sp S1x1280 .f32) (f : v.ty.Contents (Elt F)) (o : Nat)
    (h : ∀ a, (![0, o] : Fin 2 → Nat) a + (![1, 128] : Fin 2 → Nat) a ≤ S1x1280.size a) :
    v.readAt (Elt F) (Rect.unit (s := S1x1280) ![0, o] ![1, 128] h).toLoadRect f = wsTile (v.read (Elt F) f) o h :=
  View.readAt_unit v f h rfl h

theorem pay2_eq (v : A F) : k0_pay2 v = v := shapeCast_self _ _
theorem pay3_eq (v : A F) : k0_pay3 v = v := shapeCast_self _ _
theorem pay4_eq (v : A F) : k0_pay4 v = v := shapeCast_self _ _
theorem pay5_eq (v : A F) : k0_pay5 v = v := shapeCast_self _ _
theorem pay41_eq (v : A F) : k0_pay41 v = v := shapeCast_self _ _
theorem pay6_eq (z : A F) (a b : IVec S128x128 32) (g : A F) (p : IVec S128x128 1) : k0_pay6 z a b g p = k0_pay1 z a b g p := shapeCast_self _ _

section
variable (c : Dev nD) (i : grid0.Coords) (arg1 : Memref sig .tc .vmem S128x4096 .bf16) (harg1 : arg1.IsWhole) (arg2 : Memref sig .tc .vmem S1280x4096 .fp8e4m3) (harg2 : arg2.IsWhole) (arg3 : Memref sig .tc .vmem S1x1280 .f32) (harg3 : arg3.IsWhole) (arg4 : Memref sig .tc .vmem S128x7 .i32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x7 .f32) (harg7 : arg7.IsWhole) (arg8 : Memref sig .tc .vmem S128x4096 .fp8e4m3) (harg8 : arg8.IsWhole) (arg9 : Memref sig .tc .vmem S1x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole)
  (x : Vec F S128x4096 .bf16) (w : Vec F S1280x4096 .fp8e4m3) (ws : Vec F S1x1280 .f32) (tg : Vec F S128x7 .i32)
  (y4 y5 : Vec F S1x128 .f32) (y6 : Vec F S128x7 .f32) (cd : Vec F S128x4096 .fp8e4m3) (y8 : Vec F S1x128 .f32) (x2 : A F) (s : Carry F)

set_option maxHeartbeats 8000000 in
/-- The body at a point in the middle: what is carried advances one step; nothing else changes. -/
theorem run_mid (h1 : ¬c1 i) (h2 : ¬c2 i) (h3 : ¬c3 i) (E : Set ℕ) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ owns (c : Thread nD τ) arg8 fullShare cd ∗ owns (c : Thread nD τ) arg9 fullShare y8 ∗ owns (c : Thread nD τ) arg10 fullShare x2 ∗ owns (c : Thread nD τ) arg11 fullShare s.m ∗ owns (c : Thread nD τ) arg12 fullShare s.s0 ∗ owns (c : Thread nD τ) arg13 fullShare s.s1 ∗ owns (c : Thread nD τ) arg14 fullShare s.s2 ∗ owns (c : Thread nD τ) arg15 fullShare s.t
      ∗ (iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ owns (c : Thread nD τ) arg8 fullShare cd ∗ owns (c : Thread nD τ) arg9 fullShare y8 ∗ owns (c : Thread nD τ) arg10 fullShare x2 ∗ owns (c : Thread nD τ) arg11 fullShare (stepC i cd w ws tg x2 s).m ∗ owns (c : Thread nD τ) arg12 fullShare (stepC i cd w ws tg x2 s).s0 ∗ owns (c : Thread nD τ) arg13 fullShare (stepC i cd w ws tg x2 s).s1 ∗ owns (c : Thread nD τ) arg14 fullShare (stepC i cd w ws tg x2 s).s2 ∗ owns (c : Thread nD τ) arg15 fullShare (stepC i cd w ws tg x2 s).t) -∗ K ⟨⟩))
    ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lm_head_entropy_eq_skeleton]; unfold cc0_lm_head_entropy_skel
  simp only [k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H11]
  · iexists _; isplitr; swap; · iexact H11
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H12]
  · iexists _; isplitr; swap; · iexact H12
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H13]
  · iexists _; isplitr; swap; · iexact H13
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  · iexists _; isplitr; swap; · iexact H14
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl

set_option maxHeartbeats 8000000 in
/-- The body at the last point: what is carried advances one step, and the three results are stored from it. -/
theorem run_last (h1 : ¬c1 i) (h2 : ¬c2 i) (h3 : c3 i) (E : Set ℕ) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare tg ∗ (∃ d, owns (c : Thread nD τ) arg5 fullShare d) ∗ (∃ d, owns (c : Thread nD τ) arg6 fullShare d) ∗ (∃ d, owns (c : Thread nD τ) arg7 fullShare d) ∗ owns (c : Thread nD τ) arg8 fullShare cd ∗ owns (c : Thread nD τ) arg9 fullShare y8 ∗ owns (c : Thread nD τ) arg10 fullShare x2 ∗ owns (c : Thread nD τ) arg11 fullShare s.m ∗ owns (c : Thread nD τ) arg12 fullShare s.s0 ∗ owns (c : Thread nD τ) arg13 fullShare s.s1 ∗ owns (c : Thread nD τ) arg14 fullShare s.s2 ∗ owns (c : Thread nD τ) arg15 fullShare s.t
      ∗ (iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare (entOf (stepC i cd w ws tg x2 s)) ∗ owns (c : Thread nD τ) arg6 fullShare (varOf (stepC i cd w ws tg x2 s)) ∗ owns (c : Thread nD τ) arg7 fullShare (lpOf (stepC i cd w ws tg x2 s)) ∗ owns (c : Thread nD τ) arg8 fullShare cd ∗ owns (c : Thread nD τ) arg9 fullShare y8 ∗ owns (c : Thread nD τ) arg10 fullShare x2 ∗ owns (c : Thread nD τ) arg11 fullShare (stepC i cd w ws tg x2 s).m ∗ owns (c : Thread nD τ) arg12 fullShare (stepC i cd w ws tg x2 s).s0 ∗ owns (c : Thread nD τ) arg13 fullShare (stepC i cd w ws tg x2 s).s1 ∗ owns (c : Thread nD τ) arg14 fullShare (stepC i cd w ws tg x2 s).s2 ∗ owns (c : Thread nD τ) arg15 fullShare (stepC i cd w ws tg x2 s).t) -∗ K ⟨⟩))
    ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lm_head_entropy_eq_skeleton]; unfold cc0_lm_head_entropy_skel
  simp only [k0_part5_eq_skeleton, k0_part6_eq_skeleton, k0_part7_eq_skeleton, k0_part8_eq_skeleton, k0_part9_eq_skeleton, k0_part10_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, %hf4, H4⟩, ⟨%d5, %f5, %hf5, H5⟩, ⟨%d6, %f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H5]
  · iexists _; isplitr; swap; · iexact H5
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H6]
  · iexists _; isplitr; swap; · iexact H6
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H11]
  · iexists _; isplitr; swap; · iexact H11
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H12]
  · iexists _; isplitr; swap; · iexact H12
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H13]
  · iexists _; isplitr; swap; · iexact H13
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  · iexists _; isplitr; swap; · iexact H14
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl

set_option maxHeartbeats 8000000 in
/-- The body at the first point: codes and scales are stored, and what is carried is one step from the start. -/
theorem run_first (h1 : c1 i) (h2 : c2 i) (h3 : ¬c3 i) (E : Set ℕ) (K : PUnit → sProp 𝕄) :
    iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x ∗ owns (c : Thread nD τ) arg2 fullShare w ∗ owns (c : Thread nD τ) arg3 fullShare ws ∗ owns (c : Thread nD τ) arg4 fullShare tg ∗ owns (c : Thread nD τ) arg5 fullShare y4 ∗ owns (c : Thread nD τ) arg6 fullShare y5 ∗ owns (c : Thread nD τ) arg7 fullShare y6 ∗ owns (c : Thread nD τ) arg8 fullShare (cdOf x) ∗ owns (c : Thread nD τ) arg9 fullShare (rowOf x) ∗ owns (c : Thread nD τ) arg10 fullShare (x2Of x) ∗ owns (c : Thread nD τ) arg11 fullShare (stepC i (cdOf x) w ws tg (x2Of x) (initC (cdOf x) w ws (x2Of x))).m ∗ owns (c : Thread nD τ) arg12 fullShare (stepC i (cdOf x) w ws tg (x2Of x) (initC (cdOf x) w ws (x2Of x))).s0 ∗ owns (c : Thread nD τ) arg13 fullShare (stepC i (cdOf x) w ws tg (x2Of x) (initC (cdOf x) w ws (x2Of x))).s1 ∗ owns (c : Thread nD τ) arg14 fullShare (stepC i (cdOf x) w ws tg (x2Of x) (initC (cdOf x) w ws (x2Of x))).s2 ∗ owns (c : Thread nD τ) arg15 fullShare (stepC i (cdOf x) w ws tg (x2Of x) (initC (cdOf x) w ws (x2Of x))).t) -∗ K ⟨⟩))
    ⊢ wp frame (wpE (defs₀ (F := F)) Variants.none c none) E (cc0_lm_head_entropy i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_lm_head_entropy_eq_skeleton]; unfold cc0_lm_head_entropy_skel
  simp only [k0_part5_eq_skeleton, k0_part6_eq_skeleton, k0_part7_eq_skeleton, k0_part8_eq_skeleton, k0_part9_eq_skeleton, k0_part10_eq_skeleton]
  unfold k0_part5_skel; simp only [k0_part3_eq_skeleton]; unfold k0_part3_skel; simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H8]
  · iexists _; isplitr; swap; · iexact H8
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H9]
  · iexists _; isplitr; swap; · iexact H9
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H10]
  · iexists _; isplitr; swap; · iexact H10
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H11]
  · iexists _; isplitr; swap; · iexact H11
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H12]
  · iexists _; isplitr; swap; · iexact H12
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  isplitl [H13]
  · iexists _; isplitr; swap; · iexact H13
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl
  · iexists _; isplitr; swap; · iexact H14
    ipureintro
    sl_unfold_run_names
    simp only [View.read_writes_full, View.readAt_writes_full, View.readCov_full, View.readAt_full, read_tile, read_tile', rw_a, rw_b, rw_d, rw_e, ra_a, ra_b, ra_c, ra_d, ra_e, rc_a, rc_b, rc_d, Memref.IsWhole.read_unread,
      pay2_eq, pay3_eq, pay4_eq, pay5_eq, pay6_eq, pay41_eq]
    first | done | rfl

end

end Cert.KernelIdeal.Own

end
-- ==== Proof.KernelIdealFrame.lean ====
/- The frame of `Cert.KernelIdeal`: the kernel's pipeline run over its 25 grid points, what every buffer holds after each,
   and the theorem that the program terminates without fault and leaves its arguments unchanged. -/
module

public import proofs.«01_k».proof.Proof.KernelIdealRun
public import Idealize.ShloMosaic.Lib.Pipeline.FrameBody
public import Idealize.ShloMosaic.Lib.WordCmp
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branch conditions over the points -/

theorem hc1 : ∀ t : Fin cfg0.N, c1 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [c1, k0_cond1, e0]
    word_cmp
   : ∀ t : Fin grid0.N, c1 (grid0.coords t) ↔ t.val % 25 = 0)

theorem hc2 : ∀ t : Fin cfg0.N, c2 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [c2, e0]
    word_cmp
   : ∀ t : Fin grid0.N, c2 (grid0.coords t) ↔ t.val % 25 = 0)

theorem hc3 : ∀ t : Fin cfg0.N, c3 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [c3, k0_cond3, e0]
    word_cmp
   : ∀ t : Fin grid0.N, c3 (grid0.coords t) ↔ t.val % 25 = 24)

/-! ## Where the windows are idle, and where they are written back -/

theorem live_in (t : Fin cfg0.N) : cfg0.idle 0 (grid0.coords t) = false ∧ cfg0.idle 1 (grid0.coords t) = false
    ∧ cfg0.idle 2 (grid0.coords t) = false ∧ cfg0.idle 3 (grid0.coords t) = false := ⟨rfl, rfl, rfl, rfl⟩
theorem idle_4 : ∀ t : Fin cfg0.N, ¬c3 (grid0.coords t) → cfg0.idle 4 (grid0.coords t) = true := by decide +kernel
theorem live_4 : ∀ t : Fin cfg0.N, c3 (grid0.coords t) → cfg0.idle 4 (grid0.coords t) = false := by decide +kernel
theorem idle_5 : ∀ t : Fin cfg0.N, ¬c3 (grid0.coords t) → cfg0.idle 5 (grid0.coords t) = true := by decide +kernel
theorem live_5 : ∀ t : Fin cfg0.N, c3 (grid0.coords t) → cfg0.idle 5 (grid0.coords t) = false := by decide +kernel
theorem idle_6 : ∀ t : Fin cfg0.N, ¬c3 (grid0.coords t) → cfg0.idle 6 (grid0.coords t) = true := by decide +kernel
theorem live_6 : ∀ t : Fin cfg0.N, c3 (grid0.coords t) → cfg0.idle 6 (grid0.coords t) = false := by decide +kernel
theorem idle_7 : ∀ t : Fin cfg0.N, ¬c1 (grid0.coords t) → cfg0.idle 7 (grid0.coords t) = true := by decide +kernel
theorem live_7 : ∀ t : Fin cfg0.N, c1 (grid0.coords t) → cfg0.idle 7 (grid0.coords t) = false := by decide +kernel
theorem idle_8 : ∀ t : Fin cfg0.N, ¬c1 (grid0.coords t) → cfg0.idle 8 (grid0.coords t) = true := by decide +kernel
theorem live_8 : ∀ t : Fin cfg0.N, c1 (grid0.coords t) → cfg0.idle 8 (grid0.coords t) = false := by decide +kernel
theorem noFlush_4 (t : Fin cfg0.N) (h : ¬t.val % 25 = 24) : (cfg0.win 4).flush t = false :=
  Bool.eq_false_iff.mpr fun hf => h ((flush0_4 t).mp hf)
theorem noFlush_5 (t : Fin cfg0.N) (h : ¬t.val % 25 = 24) : (cfg0.win 5).flush t = false :=
  Bool.eq_false_iff.mpr fun hf => h ((flush0_5 t).mp hf)
theorem noFlush_6 (t : Fin cfg0.N) (h : ¬t.val % 25 = 24) : (cfg0.win 6).flush t = false :=
  Bool.eq_false_iff.mpr fun hf => h ((flush0_6 t).mp hf)
theorem noFlush_7 (t : Fin cfg0.N) (h : ¬t.val % 25 = 24) : (cfg0.win 7).flush t = false :=
  Bool.eq_false_iff.mpr fun hf => h ((flush0_7 t).mp hf)
theorem noFlush_8 (t : Fin cfg0.N) (h : ¬t.val % 25 = 24) : (cfg0.win 8).flush t = false :=
  Bool.eq_false_iff.mpr fun hf => h ((flush0_8 t).mp hf)

/-! ## The staging and scratch memrefs -/

abbrev ms0 (t : Fin cfg0.N) : Memref sig .tc .vmem S128x4096 .bf16 := win0_0.stage (cfg0.slots t 0)
abbrev ms1 (t : Fin cfg0.N) : Memref sig .tc .vmem S1280x4096 .fp8e4m3 := win0_1.stage (cfg0.slots t 1)
abbrev ms2 (t : Fin cfg0.N) : Memref sig .tc .vmem S1x1280 .f32 := win0_2.stage (cfg0.slots t 2)
abbrev ms3 (t : Fin cfg0.N) : Memref sig .tc .vmem S128x7 .i32 := win0_3.stage (cfg0.slots t 3)
abbrev ms4 (t : Fin cfg0.N) : Memref sig .tc .vmem S1x128 .f32 := win0_4.stage (cfg0.slots t 4)
abbrev ms5 (t : Fin cfg0.N) : Memref sig .tc .vmem S1x128 .f32 := win0_5.stage (cfg0.slots t 5)
abbrev ms6 (t : Fin cfg0.N) : Memref sig .tc .vmem S128x7 .f32 := win0_6.stage (cfg0.slots t 6)
abbrev ms7 (t : Fin cfg0.N) : Memref sig .tc .vmem S128x4096 .fp8e4m3 := win0_7.stage (cfg0.slots t 7)
abbrev ms8 (t : Fin cfg0.N) : Memref sig .tc .vmem S1x128 .f32 := win0_8.stage (cfg0.slots t 8)
abbrev sc0 : Memref sig .tc .vmem S128x128 .f32 := Memref.whole cc0_scratch0
abbrev sc1 : Memref sig .tc .vmem S128x128 .f32 := Memref.whole cc0_scratch1
abbrev sc2 : Memref sig .tc .vmem S128x128 .f32 := Memref.whole cc0_scratch2
abbrev sc3 : Memref sig .tc .vmem S128x128 .f32 := Memref.whole cc0_scratch3
abbrev sc4 : Memref sig .tc .vmem S128x128 .f32 := Memref.whole cc0_scratch4
abbrev sc5 : Memref sig .tc .vmem S128x128 .f32 := Memref.whole cc0_scratch5

/-- What the launch hands the region: every scratch buffer at some contents, and the generator register. -/
theorem phiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-! ## What the buffers hold after each point -/

/-- The first point. -/
def t00 : Fin cfg0.N := ⟨0, lt_of_lt_of_eq (by decide) (show cfg0.N = 25 from N_0).symm⟩

/-- The codes the first point stores. -/
def cd0 (c : Dev nD) : Vec F S128x4096 .fp8e4m3 := cdOf (iblk m c 0 t00)
/-- The scale row the first point stores. -/
def row0 (c : Dev nD) : Vec F S1x128 .f32 := rowOf (iblk m c 0 t00)
/-- The row scales the first point stores. -/
def x20 (c : Dev nD) : A F := x2Of (iblk m c 0 t00)

/-- What is carried after point `n`. -/
def carry (c : Dev nD) : (n : ℕ) → n < cfg0.N → Carry F
  | 0, h => stepC (grid0.coords ⟨0, h⟩) (cd0 m c) (iblk m c 1 ⟨0, h⟩) (iblk m c 2 ⟨0, h⟩) (iblk m c 3 ⟨0, h⟩) (x20 m c)
      (initC (cd0 m c) (iblk m c 1 ⟨0, h⟩) (iblk m c 2 ⟨0, h⟩) (x20 m c))
  | n + 1, h => stepC (grid0.coords ⟨n + 1, h⟩) (cd0 m c) (iblk m c 1 ⟨n + 1, h⟩) (iblk m c 2 ⟨n + 1, h⟩) (iblk m c 3 ⟨n + 1, h⟩) (x20 m c)
      (carry c n (Nat.lt_of_succ_lt h))

/-- The invariant before point `n`: the scratch buffers at what is carried. -/
def PhiS (c : Dev nD) : (n : ℕ) → n ≤ cfg0.N → sProp 𝕄
  | 0, _ => Pipeline.ΦA spec0 c
  | n + 1, hn => iprop(iprop(owns (c : Thread nD τ) sc0 fullShare (x20 m c) ∗ owns (c : Thread nD τ) sc1 fullShare (carry m c n hn).m ∗ owns (c : Thread nD τ) sc2 fullShare (carry m c n hn).s0 ∗ owns (c : Thread nD τ) sc3 fullShare (carry m c n hn).s1 ∗ owns (c : Thread nD τ) sc4 fullShare (carry m c n hn).s2 ∗ owns (c : Thread nD τ) sc5 fullShare (carry m c n hn).t) ∗ (∃ r, prngReg c r))

/-- The pipeline's proof data: what every staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => entOf (carry m c t.val t.isLt)
    | ⟨5, _⟩ => varOf (carry m c t.val t.isLt)
    | ⟨6, _⟩ => lpOf (carry m c t.val t.isLt)
    | ⟨7, _⟩ => cd0 m c
    | ⟨8, _⟩ => row0 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = entOf (carry m c t.val t.isLt) := by dsimp only [dats]
theorem after_5 (c : Dev nD) (t : Fin cfg0.N) : (dats m 0 c).after 5 t = varOf (carry m c t.val t.isLt) := by dsimp only [dats]
theorem after_6 (c : Dev nD) (t : Fin cfg0.N) : (dats m 0 c).after 6 t = lpOf (carry m c t.val t.isLt) := by dsimp only [dats]
theorem after_7 (c : Dev nD) (t : Fin cfg0.N) : (dats m 0 c).after 7 t = cd0 m c := by dsimp only [dats]
theorem after_8 (c : Dev nD) (t : Fin cfg0.N) : (dats m 0 c).after 8 t = row0 m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point the buffer of window 7 holds what the first point stored. -/
theorem before_7 (c : Dev nD) (d) : ∀ (n : ℕ) (h : n + 1 < cfg0.N), (dats m 0 c).before 7 ⟨n + 1, h⟩ d = cd0 m c
  | 0, h => by
    rw [Dat.before_of_pos _ 7 ⟨0 + 1, h⟩ (Nat.succ_ne_zero _) rfl, if_neg (by rw [noFlush_7 _ (by dsimp only; omega)]; exact Bool.false_ne_true)]
    unfold Dat.left
    rw [live_7 _ ((hc1 _).mpr (by dsimp only))]
    exact (after_7 m c _)
  | n + 1, h => by
    have hN : n + 1 + 1 < 25 := lt_of_lt_of_eq h (show cfg0.N = 25 from N_0)
    rw [Dat.before_of_pos _ 7 ⟨n + 1 + 1, h⟩ (Nat.succ_ne_zero _) rfl, if_neg (by rw [noFlush_7 _ (by dsimp only; omega)]; exact Bool.false_ne_true)]
    unfold Dat.left
    rw [idle_7 _ (fun hh => by have := (hc1 _).mp hh; dsimp only at this; omega)]
    exact before_7 c d n (Nat.lt_of_succ_lt h)

/-- After the first point the buffer of window 8 holds what the first point stored. -/
theorem before_8 (c : Dev nD) (d) : ∀ (n : ℕ) (h : n + 1 < cfg0.N), (dats m 0 c).before 8 ⟨n + 1, h⟩ d = row0 m c
  | 0, h => by
    rw [Dat.before_of_pos _ 8 ⟨0 + 1, h⟩ (Nat.succ_ne_zero _) rfl, if_neg (by rw [noFlush_8 _ (by dsimp only; omega)]; exact Bool.false_ne_true)]
    unfold Dat.left
    rw [live_8 _ ((hc1 _).mpr (by dsimp only))]
    exact (after_8 m c _)
  | n + 1, h => by
    have hN : n + 1 + 1 < 25 := lt_of_lt_of_eq h (show cfg0.N = 25 from N_0)
    rw [Dat.before_of_pos _ 8 ⟨n + 1 + 1, h⟩ (Nat.succ_ne_zero _) rfl, if_neg (by rw [noFlush_8 _ (by dsimp only; omega)]; exact Bool.false_ne_true)]
    unfold Dat.left
    rw [idle_8 _ (fun hh => by have := (hc1 _).mp hh; dsimp only at this; omega)]
    exact before_8 c d n (Nat.lt_of_succ_lt h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_live_0 (c : Dev nD) (t : Fin cfg0.N) (h : cfg0.idle 0 (grid0.coords t) = false) :
    (dats m 0 c).leavesExact 0 t = owns (c : Thread nD τ) (ms0 t) fullShare (iblk m c 0 t) := by
  unfold Dat.leavesExact; rw [h, after_0]
theorem leaves_live_1 (c : Dev nD) (t : Fin cfg0.N) (h : cfg0.idle 1 (grid0.coords t) = false) :
    (dats m 0 c).leavesExact 1 t = owns (c : Thread nD τ) (ms1 t) fullShare (iblk m c 1 t) := by
  unfold Dat.leavesExact; rw [h, after_1]
theorem leaves_live_2 (c : Dev nD) (t : Fin cfg0.N) (h : cfg0.idle 2 (grid0.coords t) = false) :
    (dats m 0 c).leavesExact 2 t = owns (c : Thread nD τ) (ms2 t) fullShare (iblk m c 2 t) := by
  unfold Dat.leavesExact; rw [h, after_2]
theorem leaves_live_3 (c : Dev nD) (t : Fin cfg0.N) (h : cfg0.idle 3 (grid0.coords t) = false) :
    (dats m 0 c).leavesExact 3 t = owns (c : Thread nD τ) (ms3 t) fullShare (iblk m c 3 t) := by
  unfold Dat.leavesExact; rw [h, after_3]
theorem leaves_live_4 (c : Dev nD) (t : Fin cfg0.N) (h : cfg0.idle 4 (grid0.coords t) = false) :
    (dats m 0 c).leavesExact 4 t = owns (c : Thread nD τ) (ms4 t) fullShare (entOf (carry m c t.val t.isLt)) := by
  unfold Dat.leavesExact; rw [h, after_4]
theorem leaves_live_5 (c : Dev nD) (t : Fin cfg0.N) (h : cfg0.idle 5 (grid0.coords t) = false) :
    (dats m 0 c).leavesExact 5 t = owns (c : Thread nD τ) (ms5 t) fullShare (varOf (carry m c t.val t.isLt)) := by
  unfold Dat.leavesExact; rw [h, after_5]
theorem leaves_live_6 (c : Dev nD) (t : Fin cfg0.N) (h : cfg0.idle 6 (grid0.coords t) = false) :
    (dats m 0 c).leavesExact 6 t = owns (c : Thread nD τ) (ms6 t) fullShare (lpOf (carry m c t.val t.isLt)) := by
  unfold Dat.leavesExact; rw [h, after_6]
theorem leaves_live_7 (c : Dev nD) (t : Fin cfg0.N) (h : cfg0.idle 7 (grid0.coords t) = false) :
    (dats m 0 c).leavesExact 7 t = owns (c : Thread nD τ) (ms7 t) fullShare (cd0 m c) := by
  unfold Dat.leavesExact; rw [h, after_7]
theorem leaves_live_8 (c : Dev nD) (t : Fin cfg0.N) (h : cfg0.idle 8 (grid0.coords t) = false) :
    (dats m 0 c).leavesExact 8 t = owns (c : Thread nD τ) (ms8 t) fullShare (row0 m c) := by
  unfold Dat.leavesExact; rw [h, after_8]
theorem leaves_flush_7 (c : Dev nD) (t : Fin cfg0.N) (h : cfg0.idle 7 (grid0.coords t) = true) (hf : (cfg0.win 7).flush t = true) :
    (dats m 0 c).leavesExact 7 t = owns (c : Thread nD τ) (ms7 t) fullShare (cd0 m c) := by
  unfold Dat.leavesExact; rw [h, hf, after_7]
theorem leaves_flush_8 (c : Dev nD) (t : Fin cfg0.N) (h : cfg0.idle 8 (grid0.coords t) = true) (hf : (cfg0.win 8).flush t = true) :
    (dats m 0 c).leavesExact 8 t = owns (c : Thread nD τ) (ms8 t) fullShare (row0 m c) := by
  unfold Dat.leavesExact; rw [h, hf, after_8]

set_option maxHeartbeats 4000000 in
/-- The body at any point keeps the invariant and leaves the buffers as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    show (dats m 0 c).Φ t.succ = PhiS m c (t.val + 1) t.isLt from rfl, PhiS_castSucc m c t,
    leaves_live_0 m c t rfl, leaves_live_1 m c t rfl, leaves_live_2 m c t rfl, leaves_live_3 m c t rfl]
  have hN : t.val < 25 := lt_of_lt_of_eq t.isLt (show cfg0.N = 25 from N_0)
  obtain ⟨n, hn⟩ := t
  cases n with
  | zero =>
    have h1 : c1 (grid0.coords ⟨0, hn⟩) := (hc1 _).mpr rfl
    have h2 : c2 (grid0.coords ⟨0, hn⟩) := (hc2 _).mpr rfl
    have h3 : ¬c3 (grid0.coords ⟨0, hn⟩) := fun h => by have := (hc3 _).mp h; dsimp only at this; omega
    rw [Dat.leavesExact_idle (dats m 0 c) 4 _ (idle_4 _ h3) (noFlush_4 _ (by dsimp only; omega)),
      Dat.leavesExact_idle (dats m 0 c) 5 _ (idle_5 _ h3) (noFlush_5 _ (by dsimp only; omega)),
      Dat.leavesExact_idle (dats m 0 c) 6 _ (idle_6 _ h3) (noFlush_6 _ (by dsimp only; omega)),
      leaves_live_7 m c _ (live_7 _ h1), leaves_live_8 m c _ (live_8 _ h1)]
    rw [show PhiS m c (⟨0, hn⟩ : Fin cfg0.N).val (Nat.le_of_lt hn) = Pipeline.ΦA spec0 c from rfl, phiA_eq]
    unfold PhiS carry
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords ⟨0, hn⟩) _ _ _ _ _ _ _ _ _ _ _ _ _ _ _ _ _ _ _ _ _ _ _ _ _ _ _ _ _ _ (iblk m c 0 ⟨0, hn⟩) (iblk m c 1 ⟨0, hn⟩) (iblk m c 2 ⟨0, hn⟩) (iblk m c 3 ⟨0, hn⟩) _ _ _ h1 h2 h3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    iexact H8
  | succ n =>
    have h1 : ¬c1 (grid0.coords ⟨n + 1, hn⟩) := fun h => by have := (hc1 _).mp h; dsimp only at this hN; omega
    have h2 : ¬c2 (grid0.coords ⟨n + 1, hn⟩) := fun h => by have := (hc2 _).mp h; dsimp only at this hN; omega
    rw [show PhiS m c (⟨n + 1, hn⟩ : Fin cfg0.N).val (Nat.le_of_lt hn) = PhiS m c (n + 1) (Nat.le_of_lt hn) from rfl]
    by_cases h24 : n + 1 = 24
    · have h3 : c3 (grid0.coords ⟨n + 1, hn⟩) := (hc3 _).mpr (by dsimp only; omega)
      rw [leaves_live_4 m c _ (live_4 _ h3), leaves_live_5 m c _ (live_5 _ h3), leaves_live_6 m c _ (live_6 _ h3),
        leaves_flush_7 m c _ (idle_7 _ h1) ((flush0_7 _).mpr (by dsimp only; omega)), leaves_flush_8 m c _ (idle_8 _ h1) ((flush0_8 _).mpr (by dsimp only; omega))]
      simp only [before_7, before_8, PhiS, carry]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords ⟨n + 1, hn⟩) _ _ _ _ _ _ _ _ _ _ _ _ _ _ _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) (cd0 m c) (row0 m c) (x20 m c) (carry m c n (Nat.lt_of_succ_lt hn)) h1 h2 h3 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hN' : n + 1 < 25 := hN
      have h3 : ¬c3 (grid0.coords ⟨n + 1, hn⟩) := fun h => by have := (hc3 _).mp h; dsimp only at this hN; omega
      rw [Dat.leavesExact_idle (dats m 0 c) 4 _ (idle_4 _ h3) (noFlush_4 _ (by dsimp only; omega)),
        Dat.leavesExact_idle (dats m 0 c) 5 _ (idle_5 _ h3) (noFlush_5 _ (by dsimp only; omega)),
        Dat.leavesExact_idle (dats m 0 c) 6 _ (idle_6 _ h3) (noFlush_6 _ (by dsimp only; omega)),
        Dat.leavesExact_idle (dats m 0 c) 7 _ (idle_7 _ h1) (noFlush_7 _ (by dsimp only; omega)),
        Dat.leavesExact_idle (dats m 0 c) 8 _ (idle_8 _ h1) (noFlush_8 _ (by dsimp only; omega))]
      simp only [before_7, before_8, PhiS, carry]
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords ⟨n + 1, hn⟩) _ _ _ _ _ _ _ _ _ _ _ _ _ _ _ _ _ _ _ _ _ _ _ _ _ _ _ _ _ _ (iblk m c 0 ⟨n + 1, hn⟩) (iblk m c 1 ⟨n + 1, hn⟩) (iblk m c 2 ⟨n + 1, hn⟩) (iblk m c 3 ⟨n + 1, hn⟩) _ _ _ (cd0 m c) (row0 m c) (x20 m c) (carry m c n (Nat.lt_of_succ_lt hn)) h1 h2 h3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists d7; iexact H7
      iexists d8; iexact H8

theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  have hN : cfg0.N = 24 + 1 := N_0
  rw [show (dats m 0 c).Φ (Fin.last cfg0.N) = PhiS m c (24 + 1) (Nat.le_of_eq hN.symm) from rfl, phiA_eq]
  unfold PhiS
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

set_option backward.isDefEq.respectTransparency.types false in
/-- The program runs to what the proof data say, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program terminates without fault, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own

end
-- ==== Proof.KernelBlocks.lean ====
/- The kernel's input blocks at a grid point, from its arguments. -/
module

public import proofs.«01_k».proof.Proof.KernelIdealFrame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Own

open Cert.KernelIdeal Cert.KernelIdeal.Gen Idealize.ShloMosaic Idealize.ShloMosaic.TcCoe Idealize.SL.Sem

variable (m : (ℓ : Loc nD τ sig) → Buf (Elt Ideal) ℓ) (c : Dev nD)

/-- The activations as a matrix. -/
def XV : Vec Ideal S128x4096 .bf16 := fun i => m ((c : Thread nD τ).loc main_arg0) (ix3 0 (i 0) (i 1))

theorem idx : ∀ t : Fin cfg0.N, win0_0.index t = ![0, 0] ∧ win0_1.index t = ![t.val, 0] ∧ win0_2.index t = ![0, t.val] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem iblk0 (t : Fin cfg0.N) : iblk m c 0 t = XV m c := by
  funext i
  obtain ⟨r, k, rfl⟩ : ∃ (r : Fin 128) (k : Fin 4096), i = ix2 r k := ⟨i 0, i 1, eq_ix2 i⟩
  unfold XV
  blk_simp [iblk, idx t]
  entry_read
  pointwise []
  blk_ext [idx t]

theorem lt25 (t : Fin cfg0.N) : t.val < 25 := lt_of_lt_of_eq t.isLt (show cfg0.N = 25 from N_0)

theorem iblk1 (t : Fin cfg0.N) (a : Fin 1280) (k : Fin 4096) (j : Fin 32000) (hj : j.val = 1280 * t.val + a.val) :
    iblk m c 1 t (ix2 a k) = m ((c : Thread nD τ).loc main_arg1) (ix2 j k) := by
  blk_ext [iblk, V, idx t]
  all_goals omega

theorem iblk2 (t : Fin cfg0.N) (a : Fin 1280) (j : Fin 32000) (hj : j.val = 1280 * t.val + a.val) :
    iblk m c 2 t (ix2 0 a) = m ((c : Thread nD τ).loc main_arg2) (ix1 j) := by
  blk_simp [iblk, idx t]
  entry_read
  pointwise []
  blk_ext [idx t]
  all_goals omega

theorem iblk3 (t : Fin cfg0.N) (r : Fin 128) (l : Fin 7) :
    iblk m c 3 t (ix2 r l) = m ((c : Thread nD τ).loc main_arg3) (ix3 0 r l) := by
  blk_simp [iblk, idx t]
  entry_read
  pointwise []
  blk_ext [idx t]

end Cert.KernelIdeal.Own

end
-- ==== Proof.Moments.lean ====
/- The arithmetic of the running softmax moments on the extended reals.
   `tk k z m` is `2^(z-m) (z-m)^k` where both are real and 0 elsewhere; `ek k z u` is the same with the natural
   exponential. The kernel keeps sums of `tk 0`, `tk 1`, `tk 2` about a running maximum (`shift0`–`shift2` move the
   point they are taken about), and the reference's entropy and varentropy are read off sums of `ek`. -/
module

public import Idealize.ShloMosaic.PureOps.Ideal
public import Mathlib.Data.EReal.Operations
public import Mathlib.Data.EReal.Inv
public import Mathlib.Analysis.SpecialFunctions.Pow.Real

@[expose] public section

noncomputable section

namespace Cert.Maths

open Idealize.ShloMosaic

/-! ## Sums of reals in the extended reals -/

theorem coe_sum {ι : Type} (T : Finset ι) (f : ι → ℝ) : ((∑ j ∈ T, f j : ℝ) : EReal) = ∑ j ∈ T, (f j : EReal) := by
  classical
  induction T using Finset.induction_on with
  | empty => simp
  | insert a s ha ih => rw [Finset.sum_insert ha, Finset.sum_insert ha, EReal.coe_add, ih]

theorem mul_sub_real (c : ℝ) (hc : 0 ≤ c) (x y : EReal) : (x - y) * (c : EReal) = x * c - y * c := by
  rw [sub_eq_add_neg, EReal.right_distrib_of_nonneg_of_ne_top (EReal.coe_nonneg.mpr hc) (EReal.coe_ne_top c), EReal.neg_mul, ← sub_eq_add_neg]

theorem mul_add_real (c : ℝ) (hc : 0 ≤ c) (x y : EReal) : (x + y) * (c : EReal) = x * c + y * c :=
  EReal.right_distrib_of_nonneg_of_ne_top (EReal.coe_nonneg.mpr hc) (EReal.coe_ne_top c) x y

/-! ## The moments -/

/-- Both are real. -/
def Both (z m : EReal) : Prop := z ≠ ⊥ ∧ z ≠ ⊤ ∧ m ≠ ⊥ ∧ m ≠ ⊤

open Classical in
/-- `2^(z-m) (z-m)^k` where both are real, 0 elsewhere. -/
def tk (k : ℕ) (z m : EReal) : ℝ :=
  if Both z m then (2 : ℝ) ^ (z.toReal - m.toReal) * (z.toReal - m.toReal) ^ k else 0

open Classical in
/-- `exp(z-m) (z-m)^k` where both are real, 0 elsewhere. -/
def ek (k : ℕ) (z m : EReal) : ℝ :=
  if Both z m then Real.exp (z.toReal - m.toReal) * (z.toReal - m.toReal) ^ k else 0

theorem both_coe (q r : ℝ) : Both (q : EReal) (r : EReal) :=
  ⟨EReal.coe_ne_bot q, EReal.coe_ne_top q, EReal.coe_ne_bot r, EReal.coe_ne_top r⟩

theorem tk_coe (k : ℕ) (q r : ℝ) : tk k (q : EReal) (r : EReal) = (2 : ℝ) ^ (q - r) * (q - r) ^ k := by
  unfold tk; rw [if_pos (both_coe q r)]; rfl
theorem ek_coe (k : ℕ) (q r : ℝ) : ek k (q : EReal) (r : EReal) = Real.exp (q - r) * (q - r) ^ k := by
  unfold ek; rw [if_pos (both_coe q r)]; rfl
theorem tk_bot (k : ℕ) (m : EReal) : tk k ⊥ m = 0 := by unfold tk; rw [if_neg (fun h => h.1 rfl)]
theorem ek_bot (k : ℕ) (m : EReal) : ek k ⊥ m = 0 := by unfold ek; rw [if_neg (fun h => h.1 rfl)]
theorem tk_top (k : ℕ) (m : EReal) : tk k ⊤ m = 0 := by unfold tk; rw [if_neg (fun h => h.2.1 rfl)]
theorem ek_top (k : ℕ) (m : EReal) : ek k ⊤ m = 0 := by unfold ek; rw [if_neg (fun h => h.2.1 rfl)]
theorem tk_at_bot (k : ℕ) (z : EReal) : tk k z ⊥ = 0 := by unfold tk; rw [if_neg (fun h => h.2.2.1 rfl)]
theorem ek_at_bot (k : ℕ) (z : EReal) : ek k z ⊥ = 0 := by unfold ek; rw [if_neg (fun h => h.2.2.1 rfl)]
theorem tk_at_top (k : ℕ) (z : EReal) : tk k z ⊤ = 0 := by unfold tk; rw [if_neg (fun h => h.2.2.2 rfl)]
theorem ek_at_top (k : ℕ) (z : EReal) : ek k z ⊤ = 0 := by unfold ek; rw [if_neg (fun h => h.2.2.2 rfl)]

/-- Below the point, `z - m` is a difference of reals or `⊥`, and then the moments are 0. -/
theorem le_cases (z m : EReal) (h : z ≤ m) :
    (∃ q r : ℝ, z = q ∧ m = r) ∨ (z - m = ⊥ ∧ (∀ k, tk k z m = 0) ∧ (∀ k, ek k z m = 0)) := by
  induction m using EReal.rec with
  | bot => exact .inr ⟨by rw [le_bot_iff.mp h]; rfl, fun k => tk_at_bot k z, fun k => ek_at_bot k z⟩
  | top => exact .inr ⟨by rw [EReal.sub_top], fun k => tk_at_top k z, fun k => ek_at_top k z⟩
  | coe r =>
    induction z using EReal.rec with
    | bot => exact .inr ⟨EReal.bot_sub _, fun k => tk_bot k _, fun k => ek_bot k _⟩
    | top => exact absurd (top_le_iff.mp h) (EReal.coe_ne_top r)
    | coe q => exact .inl ⟨q, r, rfl, rfl⟩

theorem tk0_eq {z m : EReal} (h : z ≤ m) : Ideal.exp2 (z - m) = (tk 0 z m : EReal) := by
  rcases le_cases z m h with ⟨q, r, rfl, rfl⟩ | ⟨hb, ht, -⟩
  · rw [tk_coe, ← EReal.coe_sub, Ideal.exp2_coe, pow_zero, mul_one]; rfl
  · rw [hb, ht, Ideal.exp2_bot, EReal.coe_zero]
theorem tk1_eq {z m : EReal} (h : z ≤ m) : Ideal.exp2 (z - m) * (z - m) = (tk 1 z m : EReal) := by
  rcases le_cases z m h with ⟨q, r, rfl, rfl⟩ | ⟨hb, ht, -⟩
  · rw [tk_coe, ← EReal.coe_sub, Ideal.exp2_coe, pow_one, EReal.coe_mul]; rfl
  · rw [hb, ht, Ideal.exp2_bot, EReal.coe_zero, zero_mul]
theorem tk2_eq {z m : EReal} (h : z ≤ m) : Ideal.exp2 (z - m) * (z - m) * (z - m) = (tk 2 z m : EReal) := by
  rcases le_cases z m h with ⟨q, r, rfl, rfl⟩ | ⟨hb, ht, -⟩
  · rw [tk_coe, ← EReal.coe_sub, Ideal.exp2_coe, pow_two, ← mul_assoc, EReal.coe_mul, EReal.coe_mul]; rfl
  · rw [hb, ht, Ideal.exp2_bot, EReal.coe_zero, zero_mul, zero_mul]
theorem ek0_eq {z m : EReal} (h : z ≤ m) : Ideal.exp (z - m) = (ek 0 z m : EReal) := by
  rcases le_cases z m h with ⟨q, r, rfl, rfl⟩ | ⟨hb, -, ht⟩
  · rw [ek_coe, ← EReal.coe_sub, Ideal.exp_coe, pow_zero, mul_one]
  · rw [hb, ht, Ideal.exp_bot, EReal.coe_zero]

/-- Taking logarithms to base 2 scales the `k`-th moment. -/
theorem tk_scale (k : ℕ) (z m : EReal) :
    tk k (z * (((Real.log 2)⁻¹ : ℝ) : EReal)) (m * (((Real.log 2)⁻¹ : ℝ) : EReal)) = ek k z m * (Real.log 2)⁻¹ ^ k := by
  have hL : 0 < (Real.log 2)⁻¹ := inv_pos.mpr (Real.log_pos (by norm_num))
  induction m using EReal.rec with
  | bot => rw [EReal.bot_mul_coe_of_pos hL, tk_at_bot, ek_at_bot, zero_mul]
  | top => rw [EReal.top_mul_coe_of_pos hL, tk_at_top, ek_at_top, zero_mul]
  | coe r =>
    induction z using EReal.rec with
    | bot => rw [EReal.bot_mul_coe_of_pos hL, tk_bot, ek_bot, zero_mul]
    | top => rw [EReal.top_mul_coe_of_pos hL, tk_top, ek_top, zero_mul]
    | coe q =>
      rw [← EReal.coe_mul, ← EReal.coe_mul, tk_coe, ek_coe, ← sub_mul, mul_pow, ← mul_assoc, Real.rpow_def_of_pos (by norm_num : (0:ℝ) < 2)]
      congr 3
      field_simp

/-! ## Moving the point the moments are taken about -/

section shift
variable {ι : Type} (T : Finset ι) (f : ι → EReal) {m m' : EReal} (hm : m ≤ m') (hf : ∀ j ∈ T, f j ≤ m)

/-- Either both points are real, or the sums about the new point are 0 and the step down is `⊥`. -/
theorem shift_cases (hm : m ≤ m') (hf : ∀ j ∈ T, f j ≤ m) :
    (∃ r r' : ℝ, m = r ∧ m' = r') ∨ (m - m' = ⊥ ∧ ∀ k, ∑ j ∈ T, tk k (f j) m' = 0) := by
  rcases le_cases m m' hm with h | ⟨hb, -⟩
  · exact .inl h
  · refine .inr ⟨hb, fun k => Finset.sum_eq_zero fun j hj => ?_⟩
    induction m' using EReal.rec with
    | bot => exact tk_at_bot k _
    | top => exact tk_at_top k _
    | coe r' =>
      induction m using EReal.rec with
      | bot => rw [le_bot_iff.mp (hf j hj), tk_bot]
      | top => exact absurd (top_le_iff.mp hm) (EReal.coe_ne_top r')
      | coe r => rw [← EReal.coe_sub] at hb; exact absurd hb (EReal.coe_ne_bot _)

theorem tk_shift (z : EReal) (r r' : ℝ) :
    tk 0 z r' = 2 ^ (r - r') * tk 0 z r ∧ tk 1 z r' = 2 ^ (r - r') * (tk 1 z r + (r - r') * tk 0 z r)
    ∧ tk 2 z r' = 2 ^ (r - r') * (tk 2 z r + (r - r') * (2 * tk 1 z r + (r - r') * tk 0 z r)) := by
  induction z using EReal.rec with
  | bot => simp [tk_bot]
  | top => simp [tk_top]
  | coe q =>
    simp only [tk_coe]
    have e : (2 : ℝ) ^ (q - r') = 2 ^ (r - r') * 2 ^ (q - r) := by
      rw [← Real.rpow_add (by norm_num)]; congr 1; ring
    rw [e]
    refine ⟨by ring, by ring, by ring⟩

theorem shift0 (hm : m ≤ m') (hf : ∀ j ∈ T, f j ≤ m) :
    Ideal.exp2 (m - m') * ((∑ j ∈ T, tk 0 (f j) m : ℝ) : EReal) = ((∑ j ∈ T, tk 0 (f j) m' : ℝ) : EReal) := by
  rcases shift_cases T f hm hf with ⟨r, r', rfl, rfl⟩ | ⟨hb, hz⟩
  · rw [← EReal.coe_sub, Ideal.exp2_coe, ← EReal.coe_mul]
    congr 1
    rw [Finset.mul_sum]
    exact Finset.sum_congr rfl fun j _ => ((tk_shift (f j) r r').1).symm
  · rw [hb, hz, Ideal.exp2_bot, zero_mul, EReal.coe_zero]

theorem shift1 (hm : m ≤ m') (hf : ∀ j ∈ T, f j ≤ m) :
    Ideal.exp2 (m - m') * (((∑ j ∈ T, tk 1 (f j) m : ℝ) : EReal) + (m - m') * ((∑ j ∈ T, tk 0 (f j) m : ℝ) : EReal))
      = ((∑ j ∈ T, tk 1 (f j) m' : ℝ) : EReal) := by
  rcases shift_cases T f hm hf with ⟨r, r', rfl, rfl⟩ | ⟨hb, hz⟩
  · rw [← EReal.coe_sub, Ideal.exp2_coe, ← EReal.coe_mul, ← EReal.coe_add, ← EReal.coe_mul]
    congr 1
    rw [Finset.mul_sum, ← Finset.sum_add_distrib, Finset.mul_sum]
    exact Finset.sum_congr rfl fun j _ => ((tk_shift (f j) r r').2.1).symm
  · rw [hb, hz, Ideal.exp2_bot, zero_mul, EReal.coe_zero]

theorem shift2 (hm : m ≤ m') (hf : ∀ j ∈ T, f j ≤ m) :
    Ideal.exp2 (m - m') * (((∑ j ∈ T, tk 2 (f j) m : ℝ) : EReal)
        + (m - m') * (((2 : ℝ) : EReal) * ((∑ j ∈ T, tk 1 (f j) m : ℝ) : EReal) + (m - m') * ((∑ j ∈ T, tk 0 (f j) m : ℝ) : EReal)))
      = ((∑ j ∈ T, tk 2 (f j) m' : ℝ) : EReal) := by
  rcases shift_cases T f hm hf with ⟨r, r', rfl, rfl⟩ | ⟨hb, hz⟩
  · rw [← EReal.coe_sub, Ideal.exp2_coe, ← EReal.coe_mul, ← EReal.coe_mul, ← EReal.coe_add, ← EReal.coe_mul, ← EReal.coe_add, ← EReal.coe_mul]
    congr 1
    rw [Finset.mul_sum, Finset.mul_sum, ← Finset.sum_add_distrib, Finset.mul_sum, ← Finset.sum_add_distrib, Finset.mul_sum]
    exact Finset.sum_congr rfl fun j _ => ((tk_shift (f j) r r').2.2).symm
  · rw [hb, hz, Ideal.exp2_bot, zero_mul, EReal.coe_zero]
end shift

/-! ## Entropy and varentropy from the moments -/

section final
variable {ι : Type} [Fintype ι] [Nonempty ι] (f : ι → EReal)

/-- The largest entry. -/
def top (f : ι → EReal) : EReal := Finset.univ.sup f
/-- The sum of the `k`-th moments about the largest entry. -/
def Ek (k : ℕ) (f : ι → EReal) : ℝ := ∑ j, ek k (f j) (top f)

theorem le_top' (j : ι) : f j ≤ top f := Finset.le_sup (f := f) (Finset.mem_univ j)

/-- The row's normaliser. -/
theorem sum_exp : ∑ j, Ideal.exp (f j - top f) = (Ek 0 f : EReal) := by
  unfold Ek; rw [coe_sum]; exact Finset.sum_congr rfl fun j _ => ek0_eq (le_top' f j)

/-- With a real largest entry the normaliser is positive. -/
theorem E0_pos {r : ℝ} (h : top f = r) : 0 < Ek 0 f := by
  obtain ⟨j, -, hj⟩ := Finset.exists_mem_eq_sup (Finset.univ : Finset ι) Finset.univ_nonempty f
  unfold Ek
  refine Finset.sum_pos' (fun i _ => ?_) ⟨j, Finset.mem_univ j, ?_⟩
  · unfold ek; split
    · rw [pow_zero, mul_one]; exact (Real.exp_pos _).le
    · exact le_rfl
  · have : f j = r := hj.symm.trans h
    rw [h, this, ek_coe, pow_zero, mul_one]; exact Real.exp_pos _

/-- Without one, every moment is 0. -/
theorem Ek_bad (h : top f = ⊥ ∨ top f = ⊤) (k : ℕ) : Ek k f = 0 := by
  unfold Ek
  refine Finset.sum_eq_zero fun j _ => ?_
  rcases h with h | h <;> rw [h]
  · exact ek_at_bot k _
  · exact ek_at_top k _

/-- The reference's probability of an entry. -/
def P (f : ι → EReal) (j : ι) : EReal := Ideal.div (Ideal.exp (f j - top f)) (Ek 0 f : EReal)
/-- The reference's log-probability of an entry. -/
def LP (f : ι → EReal) (j : ι) : EReal := f j - top f - Ideal.log (Ek 0 f : EReal)
/-- The reference's entropy. -/
def Hr (f : ι → EReal) : EReal := -∑ j, P f j * LP f j
/-- The reference's varentropy. -/
def Vr (f : ι → EReal) : EReal := ∑ j, P f j * ((LP f j + Hr f) * (LP f j + Hr f))

theorem P_real {r : ℝ} (h : top f = r) (j : ι) : P f j = ((ek 0 (f j) r / Ek 0 f : ℝ) : EReal) := by
  unfold P; rw [ek0_eq (le_top' f j), Ideal.div_coe (E0_pos f h).ne', ← EReal.coe_mul, h, mul_one_div]

theorem PLP_real {r : ℝ} (h : top f = r) (j : ι) :
    P f j * LP f j = (((ek 1 (f j) r - Real.log (Ek 0 f) * ek 0 (f j) r) / Ek 0 f : ℝ) : EReal) := by
  have hp := E0_pos f h
  rw [P_real f h]; unfold LP
  rw [h, Ideal.log_coe, if_neg (not_le.mpr hp)]
  have hle : f j ≤ (r : EReal) := h ▸ le_top' f j
  generalize f j = z at hle ⊢
  induction z using EReal.rec with
  | bot => simp [ek_bot]
  | top => exact absurd (top_le_iff.mp hle) (EReal.coe_ne_top r)
  | coe q =>
    rw [← EReal.coe_sub, ← EReal.coe_sub, ← EReal.coe_mul, ek_coe, ek_coe]
    congr 1; field_simp

theorem Hr_real {r : ℝ} (h : top f = r) : Hr f = ((Real.log (Ek 0 f) - Ek 1 f / Ek 0 f : ℝ) : EReal) := by
  have hp := E0_pos f h
  unfold Hr
  rw [Finset.sum_congr rfl fun j _ => PLP_real f h j, ← coe_sum, ← EReal.coe_neg]
  congr 1
  rw [← Finset.sum_div, Finset.sum_sub_distrib, ← Finset.mul_sum]
  have e0 : ∑ j, ek 0 (f j) r = Ek 0 f := by unfold Ek; rw [h]
  have e1 : ∑ j, ek 1 (f j) r = Ek 1 f := by unfold Ek; rw [h]
  rw [e0, e1]; field_simp; ring

theorem Vr_real {r : ℝ} (h : top f = r) : Vr f = ((Ek 2 f / Ek 0 f - (Ek 1 f / Ek 0 f) * (Ek 1 f / Ek 0 f) : ℝ) : EReal) := by
  have hp := E0_pos f h
  have e0 : ∑ j, ek 0 (f j) r = Ek 0 f := by unfold Ek; rw [h]
  have e1 : ∑ j, ek 1 (f j) r = Ek 1 f := by unfold Ek; rw [h]
  have e2 : ∑ j, ek 2 (f j) r = Ek 2 f := by unfold Ek; rw [h]
  have key : ∀ j, P f j * ((LP f j + Hr f) * (LP f j + Hr f))
      = (((ek 2 (f j) r - 2 * (Ek 1 f / Ek 0 f) * ek 1 (f j) r + (Ek 1 f / Ek 0 f) ^ 2 * ek 0 (f j) r) / Ek 0 f : ℝ) : EReal) := by
    intro j
    rw [P_real f h, Hr_real f h]; unfold LP
    rw [h, Ideal.log_coe, if_neg (not_le.mpr hp)]
    have hle : f j ≤ (r : EReal) := h ▸ le_top' f j
    generalize f j = z at hle ⊢
    induction z using EReal.rec with
    | bot => simp [ek_bot]
    | top => exact absurd (top_le_iff.mp hle) (EReal.coe_ne_top r)
    | coe q =>
      rw [← EReal.coe_sub, ← EReal.coe_sub, ← EReal.coe_add, ← EReal.coe_mul, ← EReal.coe_mul, ek_coe, ek_coe, ek_coe]
      congr 1; field_simp; ring
  unfold Vr
  rw [Finset.sum_congr rfl fun j _ => key j, ← coe_sum]
  congr 1
  rw [← Finset.sum_div, Finset.sum_add_distrib, Finset.sum_sub_distrib, ← Finset.mul_sum, ← Finset.mul_sum, e0, e1, e2]
  field_simp; ring

theorem bad_terms (h : top f = ⊥ ∨ top f = ⊤) : ∀ j, P f j = ⊥ ∧ LP f j = ⊥ := by
  intro j
  have h0 := Ek_bad f h 0
  have hl : Ideal.log ((0 : ℝ) : EReal) = ⊥ := by rw [Ideal.log_coe, if_pos le_rfl]
  have hd : f j - top f = ⊥ := by
    rcases h with h | h
    · have hj := le_top' f j
      rw [h] at hj ⊢; rw [le_bot_iff.mp hj]; rfl
    · rw [h, EReal.sub_top]
  constructor
  · unfold P; rw [hd, h0, Ideal.exp_bot, EReal.coe_zero]; simp [Ideal.div]
  · unfold LP; rw [hd, EReal.bot_sub]

theorem sum_const_ne {a : EReal} (ha : ∀ n : ℕ, (n + 1) • a = a) : ∑ _j : ι, a = a := by
  rw [Finset.sum_const, Finset.card_univ]
  obtain ⟨n, hn⟩ := Nat.exists_eq_succ_of_ne_zero (Fintype.card_ne_zero (α := ι))
  rw [hn]; exact ha n

theorem nsmul_top (n : ℕ) : (n + 1) • (⊤ : EReal) = ⊤ := by
  induction n with
  | zero => simp
  | succ n ih => rw [succ_nsmul, ih]; rfl
theorem nsmul_bot (n : ℕ) : (n + 1) • (⊥ : EReal) = ⊥ := by
  induction n with
  | zero => simp
  | succ n ih => rw [succ_nsmul, ih]; rfl

theorem Hr_bad (h : top f = ⊥ ∨ top f = ⊤) : Hr f = ⊥ := by
  unfold Hr
  have : ∀ j, P f j * LP f j = ⊤ := fun j => by rw [(bad_terms f h j).1, (bad_terms f h j).2, EReal.bot_mul_bot]
  rw [Finset.sum_congr rfl fun j _ => this j, sum_const_ne nsmul_top, EReal.neg_top]

theorem Vr_bad (h : top f = ⊥ ∨ top f = ⊤) : Vr f = ⊥ := by
  unfold Vr
  have : ∀ j, P f j * ((LP f j + Hr f) * (LP f j + Hr f)) = ⊥ := fun j => by
    rw [(bad_terms f h j).1, (bad_terms f h j).2, EReal.bot_add, EReal.bot_mul_bot, EReal.bot_mul_top]
  rw [Finset.sum_congr rfl fun j _ => this j, sum_const_ne nsmul_bot]

theorem top_cases : (∃ r : ℝ, top f = r) ∨ (top f = ⊥ ∨ top f = ⊤) := by
  generalize top f = t
  induction t using EReal.rec with
  | bot => exact .inr (.inl rfl)
  | top => exact .inr (.inr rfl)
  | coe r => exact .inl ⟨r, rfl⟩

/-- The kernel's entropy, from moments taken to base 2. -/
theorem entropy_eq : (Ideal.log (Ek 0 f : EReal) * (((Real.log 2)⁻¹ : ℝ) : EReal)
      - Ideal.div ((Ek 1 f * (Real.log 2)⁻¹ : ℝ) : EReal) (Ek 0 f : EReal)) * ((Real.log 2 : ℝ) : EReal) = Hr f := by
  have hl : Real.log 2 ≠ 0 := (Real.log_pos (by norm_num)).ne'
  rcases top_cases f with ⟨r, h⟩ | h
  · have hp := E0_pos f h
    rw [Hr_real f h, Ideal.log_coe, if_neg (not_le.mpr hp), Ideal.div_coe hp.ne', ← EReal.coe_mul, ← EReal.coe_mul, ← EReal.coe_sub, ← EReal.coe_mul]
    congr 1; field_simp
  · rw [Hr_bad f h, Ek_bad f h, Ek_bad f h]
    have h2 : (0 : ℝ) < Real.log 2 := Real.log_pos (by norm_num)
    rw [Ideal.log_coe, if_pos le_rfl, EReal.bot_mul_coe_of_pos (inv_pos.mpr h2), EReal.bot_sub, EReal.bot_mul_coe_of_pos h2]

/-- The kernel's varentropy, from moments taken to base 2. -/
theorem varentropy_eq : (Ideal.div ((Ek 2 f * (Real.log 2)⁻¹ ^ 2 : ℝ) : EReal) (Ek 0 f : EReal)
      - Ideal.div ((Ek 1 f * (Real.log 2)⁻¹ : ℝ) : EReal) (Ek 0 f : EReal) * Ideal.div ((Ek 1 f * (Real.log 2)⁻¹ : ℝ) : EReal) (Ek 0 f : EReal))
      * ((Real.log 2 * Real.log 2 : ℝ) : EReal) = Vr f := by
  have h2 : (0 : ℝ) < Real.log 2 := Real.log_pos (by norm_num)
  rcases top_cases f with ⟨r, h⟩ | h
  · have hp := E0_pos f h
    rw [Vr_real f h, Ideal.div_coe hp.ne', Ideal.div_coe hp.ne', ← EReal.coe_mul, ← EReal.coe_mul, ← EReal.coe_mul, ← EReal.coe_sub, ← EReal.coe_mul]
    congr 1; field_simp
  · rw [Vr_bad f h, Ek_bad f h, Ek_bad f h, Ek_bad f h]
    have : Ideal.div ((0 : ℝ) : EReal) ((0 : ℝ) : EReal) = ⊥ := by rw [EReal.coe_zero]; simp [Ideal.div]
    rw [zero_mul, zero_mul, this, EReal.bot_mul_bot, EReal.sub_top, EReal.bot_mul_coe_of_pos (mul_pos h2 h2)]

/-- The kernel's log-probability of an entry, from base 2. -/
theorem logprob_eq (z u s : EReal) : (z * (((Real.log 2)⁻¹ : ℝ) : EReal) - (u * (((Real.log 2)⁻¹ : ℝ) : EReal) + s * (((Real.log 2)⁻¹ : ℝ) : EReal)))
      * ((Real.log 2 : ℝ) : EReal) = z - (u + s) := by
  have h2 : (0 : ℝ) < Real.log 2 := Real.log_pos (by norm_num)
  rw [← mul_add_real _ (inv_pos.mpr h2).le, ← mul_sub_real _ (inv_pos.mpr h2).le, mul_assoc, ← EReal.coe_mul, inv_mul_cancel₀ h2.ne', EReal.coe_one, mul_one]

/-- Scaling every entry scales the largest. -/
theorem sup_scale (c : ℝ) (hc : 0 < c) : Finset.univ.sup (fun j => f j * (c : EReal)) = top f * (c : EReal) := by
  obtain ⟨j, -, hj⟩ := Finset.exists_mem_eq_sup (Finset.univ : Finset ι) Finset.univ_nonempty f
  refine le_antisymm (Finset.sup_le fun i _ => ?_) ?_
  · exact mul_le_mul_of_nonneg_right (le_top' f i) (EReal.coe_nonneg.mpr hc.le)
  · unfold top; rw [hj]; exact Finset.le_sup (f := fun j => f j * (c : EReal)) (Finset.mem_univ j)
end final

end Cert.Maths

end
-- ==== Proof.Running.lean ====
/- The running moments of one lane: what ten columns at a time, added to sums taken about a growing maximum, come to.
   `Inv g n m s0 s1 s2` says that after the columns `g 0 … g (10 n - 1)` the carried maximum bounds them and the three
   sums are their moments about it. -/
module

public import proofs.«01_k».proof.Proof.Moments

@[expose] public section

set_option maxRecDepth 16384

noncomputable section

namespace Cert.Maths

open Idealize.ShloMosaic

/-- What is carried after the columns `g 0 … g (10 n - 1)`. -/
structure Inv (g : ℕ → EReal) (n : ℕ) (m s0 s1 s2 : EReal) : Prop where
  bound : ∀ j < 10 * n, g j ≤ m
  least : ∀ B : EReal, (∀ j < max (10 * n) 1, g j ≤ B) → m ≤ B
  e0 : s0 = ((∑ j ∈ Finset.range (10 * n), tk 0 (g j) m : ℝ) : EReal)
  e1 : s1 = ((∑ j ∈ Finset.range (10 * n), tk 1 (g j) m : ℝ) : EReal)
  e2 : s2 = ((∑ j ∈ Finset.range (10 * n), tk 2 (g j) m : ℝ) : EReal)

theorem inv_init (g : ℕ → EReal) : Inv g 0 (g 0) 0 0 0 where
  bound j h := by omega
  least B h := h 0 (by omega)
  e0 := by simp
  e1 := by simp
  e2 := by simp

/-- Ten more columns. -/
theorem sum_ten (h : ℕ → ℝ) (n : ℕ) :
    ((∑ j ∈ Finset.range (10 * (n + 1)), h j : ℝ) : EReal)
      = ((∑ j ∈ Finset.range (10 * n), h j : ℝ) : EReal) + (h (10 * n + 0) : EReal) + (h (10 * n + 1) : EReal) + (h (10 * n + 2) : EReal)
        + (h (10 * n + 3) : EReal) + (h (10 * n + 4) : EReal) + (h (10 * n + 5) : EReal) + (h (10 * n + 6) : EReal) + (h (10 * n + 7) : EReal)
        + (h (10 * n + 8) : EReal) + (h (10 * n + 9) : EReal) := by
  rw [show 10 * (n + 1) = 10 * n + 9 + 1 by ring]
  simp only [Finset.sum_range_succ, EReal.coe_add, Nat.add_zero]

/-- The larger of the carried maximum and ten entries. -/
def max10 (m : EReal) (z : Fin 10 → EReal) : EReal :=
  max (max (max (max (max (max (max (max (max (max m (z 0)) (z 1)) (z 2)) (z 3)) (z 4)) (z 5)) (z 6)) (z 7)) (z 8)) (z 9)

theorem le_max10 (m : EReal) (z : Fin 10 → EReal) : m ≤ max10 m z ∧ ∀ i, z i ≤ max10 m z := by
  unfold max10
  constructor
  · simp only [le_max_iff, le_refl, true_or]
  · intro i; fin_cases i <;> simp [le_max_iff]

theorem max10_le (m B : EReal) (z : Fin 10 → EReal) (hm : m ≤ B) (hz : ∀ i, z i ≤ B) : max10 m z ≤ B := by
  unfold max10
  simp only [max_le_iff]
  exact ⟨⟨⟨⟨⟨⟨⟨⟨⟨⟨hm, hz 0⟩, hz 1⟩, hz 2⟩, hz 3⟩, hz 4⟩, hz 5⟩, hz 6⟩, hz 7⟩, hz 8⟩, hz 9⟩

/-- `a` and ten terms, added from the left. -/
def add10 (a : EReal) (h : Fin 10 → EReal) : EReal :=
  a + h 0 + h 1 + h 2 + h 3 + h 4 + h 5 + h 6 + h 7 + h 8 + h 9

/-- One point's update keeps the invariant. -/
theorem inv_step (g : ℕ → EReal) (n : ℕ) (m s0 s1 s2 : EReal) (h : Inv g n m s0 s1 s2) (z : Fin 10 → EReal)
    (hz : ∀ i : Fin 10, z i = g (10 * n + i.val)) :
    Inv g (n + 1) (max10 m z)
      (add10 (Ideal.exp2 (m - max10 m z) * s0) fun i => Ideal.exp2 (z i - max10 m z))
      (add10 (Ideal.exp2 (m - max10 m z) * (s1 + (m - max10 m z) * s0)) fun i => Ideal.exp2 (z i - max10 m z) * (z i - max10 m z))
      (add10 (Ideal.exp2 (m - max10 m z) * (s2 + (m - max10 m z) * (((2 : ℝ) : EReal) * s1 + (m - max10 m z) * s0)))
        fun i => Ideal.exp2 (z i - max10 m z) * (z i - max10 m z) * (z i - max10 m z)) := by
  obtain ⟨hm, hzi⟩ := le_max10 m z
  have hl : ∀ B : EReal, m ≤ B → (∀ i, z i ≤ B) → max10 m z ≤ B := fun B h1 h2 => max10_le m B z h1 h2
  generalize max10 m z = M at *
  have hb : ∀ j ∈ Finset.range (10 * n), g j ≤ m := fun j hj => h.bound j (Finset.mem_range.mp hj)
  have hge : ∀ i : Fin 10, g (10 * n + i.val) ≤ M := fun i => hz i ▸ hzi i
  refine ⟨fun j hj => ?_, fun B hB => ?_, ?_, ?_, ?_⟩
  · by_cases hc : j < 10 * n
    · exact (h.bound j hc).trans hm
    · have := hge ⟨j - 10 * n, by omega⟩
      rwa [show 10 * n + (⟨j - 10 * n, by omega⟩ : Fin 10).val = j by dsimp only; omega] at this
  · exact hl B (h.least B fun j hj => hB j (by omega)) fun i => by rw [hz i]; exact hB _ (by have := i.isLt; omega)
  · rw [h.e0, shift0 _ g hm hb, sum_ten]
    simp only [add10, tk0_eq (hzi _)]
    simp only [hz]
    rfl
  · rw [h.e0, h.e1, shift1 _ g hm hb, sum_ten]
    simp only [add10, tk1_eq (hzi _)]
    simp only [hz]
    rfl
  · rw [h.e0, h.e1, h.e2, shift2 _ g hm hb, sum_ten]
    simp only [add10, tk2_eq (hzi _)]
    simp only [hz]
    rfl

/-! ## Combining the lanes -/

/-- A column is a lane and a tile. -/
def laneEquiv : Fin 32000 ≃ Fin 128 × Fin 250 where
  toFun c := (⟨c.val % 128, Nat.mod_lt _ (by norm_num)⟩, ⟨c.val / 128, by have := c.isLt; omega⟩)
  invFun p := ⟨128 * p.2.val + p.1.val, by have := p.1.isLt; have := p.2.isLt; omega⟩
  left_inv c := Fin.ext (show 128 * (c.val / 128) + c.val % 128 = c.val by omega)
  right_inv p := by
    have h1 := p.1.isLt
    have h2 := p.2.isLt
    exact Prod.ext (Fin.ext (show (128 * p.2.val + p.1.val) % 128 = p.1.val by omega)) (Fin.ext (show (128 * p.2.val + p.1.val) / 128 = p.2.val by omega))

/-- A sum over 128 lanes and 250 columns each is a sum over the 32000 columns. -/
theorem sum_lanes (h : Fin 32000 → ℝ) (q : ℕ → Fin 128 → ℝ) (hq : ∀ (j : ℕ) (l : Fin 128) (hc : 128 * j + l.val < 32000), q j l = h ⟨128 * j + l.val, hc⟩) :
    ∑ l : Fin 128, ∑ j ∈ Finset.range 250, q j l = ∑ c, h c := by
  rw [Finset.sum_congr rfl fun l _ => Finset.sum_range fun j => q j l, ← Fintype.sum_prod_type', ← Equiv.sum_comp laneEquiv]
  refine Finset.sum_congr rfl fun c _ => ?_
  have hc := c.isLt
  rw [hq _ _ (show 128 * (c.val / 128) + c.val % 128 < 32000 by omega)]
  congr 1; exact Fin.ext (show 128 * (c.val / 128) + c.val % 128 = c.val by omega)

section lanes
variable (f : Fin 32000 → EReal) (g : Fin 128 → ℕ → EReal) (L : ℝ) (hL : 0 < L)
  (hg : ∀ (l : Fin 128) (j : ℕ) (hc : 128 * j + l.val < 32000), g l j = f ⟨128 * j + l.val, hc⟩ * (L : EReal))
  (m s0 s1 s2 : Fin 128 → EReal) (hi : ∀ l, Inv (g l) 25 (m l) (s0 l) (s1 l) (s2 l))
  (least : ∀ l (B : EReal), (∀ j < 250, g l j ≤ B) → m l ≤ B)
include hL hg hi least

/-- The largest of the lanes' maxima is the largest entry, scaled. -/
theorem lanes_max : Finset.univ.sup m = top f * (L : EReal) := by
  refine le_antisymm (Finset.sup_le fun l _ => least l _ fun j hj => ?_) ?_
  · have := l.isLt
    rw [hg l j (by omega)]
    exact mul_le_mul_of_nonneg_right (le_top' f _) (EReal.coe_nonneg.mpr hL.le)
  · rw [← sup_scale f L hL]
    refine Finset.sup_le fun c _ => ?_
    have hc := c.isLt
    have h1 := (hi ⟨c.val % 128, Nat.mod_lt _ (by norm_num)⟩).bound (c.val / 128) (by omega)
    rw [hg _ _ (by dsimp only; omega)] at h1
    have he : (⟨128 * (c.val / 128) + c.val % 128, by omega⟩ : Fin 32000) = c := Fin.ext (by dsimp only; omega)
    rw [show (⟨128 * (c.val / 128) + (⟨c.val % 128, Nat.mod_lt _ (by norm_num)⟩ : Fin 128).val, by dsimp only; omega⟩ : Fin 32000) = c from he] at h1
    exact h1.trans (Finset.le_sup (f := m) (Finset.mem_univ _))

end lanes

section moments
variable (f : Fin 32000 → EReal) (g : Fin 128 → ℕ → EReal)
  (hg : ∀ (l : Fin 128) (j : ℕ) (hc : 128 * j + l.val < 32000), g l j = f ⟨128 * j + l.val, hc⟩ * (((Real.log 2)⁻¹ : ℝ) : EReal))
  (m s0 s1 s2 : Fin 128 → EReal) (hi : ∀ l, Inv (g l) 25 (m l) (s0 l) (s1 l) (s2 l)) (M : EReal)
  (hM : M = top f * (((Real.log 2)⁻¹ : ℝ) : EReal)) (hm : ∀ l, m l ≤ M)
include hg hi hM hm

theorem lanes_tk (k : ℕ) : ∑ l : Fin 128, ((∑ j ∈ Finset.range 250, tk k (g l j) M : ℝ) : EReal) = ((Ek k f * (Real.log 2)⁻¹ ^ k : ℝ) : EReal) := by
  rw [← coe_sum]
  congr 1
  rw [sum_lanes (fun c => tk k (f c * (((Real.log 2)⁻¹ : ℝ) : EReal)) M) (fun j l => tk k (g l j) M) fun j l hc => by rw [hg l j hc]]
  rw [hM, Finset.sum_congr rfl fun c _ => tk_scale k (f c) (top f), ← Finset.sum_mul]
  rfl

theorem lanes0 : ∑ l, Ideal.exp2 (m l - M) * s0 l = (Ek 0 f : EReal) := by
  have := lanes_tk f g hg m s0 s1 s2 hi M hM hm 0
  rw [pow_zero, mul_one] at this
  rw [← this]
  exact Finset.sum_congr rfl fun l _ => by
    rw [(hi l).e0]; exact shift0 _ (g l) (hm l) fun j hj => (hi l).bound j (Finset.mem_range.mp hj)

theorem lanes1 : ∑ l, Ideal.exp2 (m l - M) * (s1 l + (m l - M) * s0 l) = ((Ek 1 f * (Real.log 2)⁻¹ : ℝ) : EReal) := by
  have := lanes_tk f g hg m s0 s1 s2 hi M hM hm 1
  rw [pow_one] at this
  rw [← this]
  exact Finset.sum_congr rfl fun l _ => by
    rw [(hi l).e0, (hi l).e1]; exact shift1 _ (g l) (hm l) fun j hj => (hi l).bound j (Finset.mem_range.mp hj)

theorem lanes2 : ∑ l, Ideal.exp2 (m l - M) * (s2 l + (m l - M) * (((2 : ℝ) : EReal) * s1 l + (m l - M) * s0 l))
    = ((Ek 2 f * (Real.log 2)⁻¹ ^ 2 : ℝ) : EReal) := by
  rw [← lanes_tk f g hg m s0 s1 s2 hi M hM hm 2]
  exact Finset.sum_congr rfl fun l _ => by
    rw [(hi l).e0, (hi l).e1, (hi l).e2]; exact shift2 _ (g l) (hm l) fun j hj => (hi l).bound j (Finset.mem_range.mp hj)

end moments

end Cert.Maths

end
-- ==== Proof.Scale.lean ====
/- The row scale: the exponent field found by binary search over the powers of two, and the same exponent read off a
   logarithm. `thr n` is the float whose exponent field is `n` and whose fraction is zero; `field v` searches for the
   largest `n` with `thr n ≤ v`; `refExp v` is the reference's exponent. -/
module

public import Idealize.ShloMosaic.PureOps.Ideal
public import Mathlib.Data.EReal.Operations
public import Mathlib.Analysis.SpecialFunctions.Pow.Real

@[expose] public section

noncomputable section

namespace Cert.Maths

open Idealize.ShloMosaic

/-- The float with exponent field `b` and no sign or fraction. -/
def powBits (b : BitVec 32) : EReal := Ideal.ofBits .f32 (IntOp.shli .vector b 23#32)

/-- One step of the search. -/
def srch (v : EReal) (b s : BitVec 32) : BitVec 32 :=
  Scalar.select (Ideal.cmp .oge v (powBits (IntOp.addi b s))) (IntOp.addi b s) b

/-- The exponent field found by the search. -/
def field (v : EReal) : BitVec 32 :=
  srch v (srch v (srch v (srch v (srch v (srch v (srch v (srch v 0#32 128#32) 64#32) 32#32) 16#32) 8#32) 4#32) 2#32) 1#32

/-- The kernel's exponent. -/
def kerExp (v : EReal) : BitVec 32 :=
  Scalar.select (IntOp.ori (Ideal.cmp .oeq v 0) (IntOp.cmpi .eq (field v) 0#32)) 0#32 (IntOp.subi (field v) 126#32)

/-- The kernel's scale. -/
def kerScale (v : EReal) : EReal := powBits (IntOp.addi (kerExp v) 127#32)
/-- The reciprocal the kernel multiplies by. -/
def kerInv (v : EReal) : EReal := powBits (IntOp.addi (IntOp.subi 0#32 (kerExp v)) 127#32)

/-- The reference's exponent. -/
def refExp (v : EReal) : EReal :=
  Scalar.select (Ideal.cmp .olt v (Ideal.ofBits .f32 0x00800000#32)) (0 : EReal)
    (Ideal.liftRound Int.floor (Ideal.log v * (((Real.log 2)⁻¹ : ℝ) : EReal)) + Ideal.ofBits .f32 0x3F800000#32)

theorem fexp2 (x : EReal) : FloatOps.exp2 (F := Ideal) (φ := .f32) x = Ideal.exp2 x := rfl
theorem fexp (x : EReal) : FloatOps.exp (F := Ideal) (φ := .f32) x = Ideal.exp x := rfl
theorem flog (x : EReal) : FloatOps.log (F := Ideal) (φ := .f32) x = Ideal.log x := rfl

theorem select_decide (p : Prop) [Decidable p] {α : Type} (a b : α) : Scalar.select (BitVec.ofBool (decide p)) a b = if p then a else b := by
  unfold Scalar.select
  by_cases h : p <;> simp [h]

/-! ## The powers of two -/

theorem field_bits : ∀ n : Fin 256, let b := IntOp.shli .vector (BitVec.ofNat 32 n.val) 23#32
    (b.extractLsb' 31 1 == 1#1) = false ∧ (b.extractLsb' 23 8).toNat = n.val ∧ (b.extractLsb' 0 23).toNat = 0 := by
  decide +kernel

theorem ieee_plain (b : BitVec 32) (n : ℕ) (ha : (b.extractLsb' 31 1 == 1#1) = false) (hb : (b.extractLsb' 23 8).toNat = n)
    (hc : (b.extractLsb' 0 23).toNat = 0) :
    Ideal.ofBits .f32 b = if n = 255 then ⊤ else if n = 0 then ((0 : ℝ) : EReal) else (((2 : ℝ) ^ 23 * (2 : ℝ) ^ ((n : ℤ) - 150) : ℝ) : EReal) := by
  show Ideal.ieee 8 23 b = _
  unfold Ideal.ieee
  simp only [Nat.reduceAdd, Nat.reducePow, Nat.reduceSub, ha, hb, hc, if_true, Bool.false_eq_true, if_false, Nat.cast_zero, Nat.add_zero, mul_zero, zero_mul, one_mul]
  split_ifs
  · rfl
  · rfl
  · congr 3
    · norm_num
    · push_cast; ring

theorem powBits_pos (n : ℕ) (h1 : 1 ≤ n) (h2 : n ≤ 254) : powBits (BitVec.ofNat 32 n) = (((2 : ℝ) ^ ((n : ℤ) - 127) : ℝ) : EReal) := by
  obtain ⟨ha, hb, hc⟩ := field_bits ⟨n, by omega⟩
  unfold powBits
  rw [ieee_plain _ n ha hb hc, if_neg (by omega), if_neg (by omega)]
  rw [EReal.coe_eq_coe_iff, show ((n : ℤ) - 127) = 23 + ((n : ℤ) - 150) by ring, zpow_add₀ (by norm_num : (2 : ℝ) ≠ 0)]
  rfl

theorem powBits_top : powBits (BitVec.ofNat 32 255) = ⊤ := by
  obtain ⟨ha, hb, hc⟩ := field_bits ⟨255, by omega⟩
  unfold powBits
  rw [ieee_plain _ 255 ha hb hc, if_pos rfl]

theorem ofBits_min : Ideal.ofBits .f32 0x00800000#32 = powBits (BitVec.ofNat 32 1) := by
  unfold powBits; congr 1

theorem ofBits_one : Ideal.ofBits .f32 0x3F800000#32 = ((1 : ℝ) : EReal) := by
  have : Ideal.ofBits .f32 0x3F800000#32 = powBits (BitVec.ofNat 32 127) := by unfold powBits; congr 1
  rw [this, powBits_pos 127 (by norm_num) (by norm_num)]; norm_num

theorem refExp_eq (v : EReal) : refExp v = if v < Ideal.ofBits .f32 0x00800000#32 then 0
    else Ideal.liftRound Int.floor (Ideal.log v * (((Real.log 2)⁻¹ : ℝ) : EReal)) + 1 := by
  unfold refExp
  rw [ofBits_one]
  exact select_decide _ _ _

/-! ## The search -/

/-- `b` is at most the answer and the answer is less than `b + w`. -/
def Found (v : ℝ) (b : BitVec 32) (w : ℕ) : Prop :=
  ∃ n : ℕ, b = BitVec.ofNat 32 n ∧ n + w ≤ 256 ∧ (n ≠ 0 → (2 : ℝ) ^ ((n : ℤ) - 127) ≤ v) ∧ v < (2 : ℝ) ^ ((n + w : ℕ) - 127 : ℤ)

theorem srch_found (v : ℝ) (b : BitVec 32) (w : ℕ) (hw : 1 ≤ w) (h : Found v b (2 * w)) (hv : v < (2 : ℝ) ^ (127 : ℤ)) :
    Found v (srch v b (BitVec.ofNat 32 w)) w := by
  obtain ⟨n, rfl, hn, hlo, hhi⟩ := h
  have e : IntOp.addi (BitVec.ofNat 32 n) (BitVec.ofNat 32 w) = BitVec.ofNat 32 (n + w) := by
    unfold IntOp.addi; rw [← BitVec.ofNat_add]
  unfold srch
  rw [e]
  by_cases h254 : n + w ≤ 254
  · rw [powBits_pos (n + w) (by omega) h254]
    by_cases hc : (2 : ℝ) ^ ((n + w : ℕ) - 127 : ℤ) ≤ v
    · have : Ideal.cmp .oge (v : EReal) (((2 : ℝ) ^ ((n + w : ℕ) - 127 : ℤ) : ℝ) : EReal) = 1 := by
        unfold Ideal.cmp; simp only [EReal.coe_le_coe_iff, hc]; rfl
      rw [this]; unfold Scalar.select; rw [if_pos rfl]
      exact ⟨n + w, rfl, by omega, fun _ => hc, by rw [show n + w + w = n + 2 * w by ring]; exact hhi⟩
    · have : Ideal.cmp .oge (v : EReal) (((2 : ℝ) ^ ((n + w : ℕ) - 127 : ℤ) : ℝ) : EReal) = 0 := by
        unfold Ideal.cmp; simp only [EReal.coe_le_coe_iff, hc]; rfl
      rw [this]; unfold Scalar.select; rw [if_neg (by decide)]
      exact ⟨n, rfl, by omega, hlo, not_le.mp hc⟩
  · have h255 : n + w = 255 := by omega
    rw [h255, powBits_top]
    have : Ideal.cmp .oge (v : EReal) ⊤ = 0 := by
      unfold Ideal.cmp; simp only [top_le_iff, EReal.coe_ne_top]; rfl
    rw [this]; unfold Scalar.select; rw [if_neg (by decide)]
    refine ⟨n, rfl, by omega, hlo, ?_⟩
    rw [h255]
    exact lt_of_lt_of_le hv (zpow_le_zpow_right₀ (by norm_num) (by norm_num))

theorem field_found (v : ℝ) (hv : v < (2 : ℝ) ^ (126 : ℤ)) : Found v (field v) 1 := by
  have hv' : v < (2 : ℝ) ^ (127 : ℤ) := lt_trans hv (zpow_lt_zpow_right₀ (by norm_num) (by norm_num))
  have h0 : Found v 0#32 256 := ⟨0, rfl, by omega, fun h => absurd rfl h, lt_of_lt_of_le hv' (zpow_le_zpow_right₀ (by norm_num) (by norm_num))⟩
  unfold field
  exact srch_found v _ 1 (by norm_num) (srch_found v _ 2 (by norm_num) (srch_found v _ 4 (by norm_num) (srch_found v _ 8 (by norm_num)
    (srch_found v _ 16 (by norm_num) (srch_found v _ 32 (by norm_num) (srch_found v _ 64 (by norm_num) (srch_found v _ 128 (by norm_num) h0 hv') hv') hv') hv') hv') hv') hv') hv'

/-! ## The two exponents agree -/

theorem exp2_int (k : ℤ) : Ideal.exp2 (((k : ℝ)) : EReal) = (((2 : ℝ) ^ k : ℝ) : EReal) := by
  rw [Ideal.exp2_coe]; congr 1; exact Real.rpow_intCast 2 k

/-- The exponent as an integer, with what both programs make of it. -/
theorem exps_agree (v : ℝ) (h0 : 0 ≤ v) (hv : v < (2 : ℝ) ^ (126 : ℤ)) :
    kerScale v = Ideal.exp2 (refExp v) ∧ kerInv v = Ideal.exp2 (0 - refExp v) := by
  obtain ⟨n, hn, hb, hlo, hhi⟩ := field_found v hv
  have hn253 : n < 253 := by
    by_contra hc
    have := hlo (by omega)
    have h2 : (2 : ℝ) ^ (126 : ℤ) ≤ (2 : ℝ) ^ ((n : ℤ) - 127) := zpow_le_zpow_right₀ (by norm_num) (by omega)
    linarith
  by_cases hz : n = 0
  · subst hz
    have hlt : v < (2 : ℝ) ^ (-126 : ℤ) := by simpa using hhi
    have hk : kerExp v = 0#32 := by
      unfold kerExp; rw [hn]
      have : IntOp.ori (Ideal.cmp .oeq (v : EReal) 0) (IntOp.cmpi .eq (BitVec.ofNat 32 0) 0#32) = 1 := by
        have h1 : IntOp.cmpi .eq (BitVec.ofNat 32 0) 0#32 = 1#1 := by decide
        rw [h1]; unfold IntOp.ori
        generalize Ideal.cmp .oeq (v : EReal) 0 = x; revert x; decide
      rw [this]; rfl
    have hr : refExp v = 0 := by
      unfold refExp
      rw [ofBits_min, powBits_pos 1 (by norm_num) (by norm_num)]
      have : Ideal.cmp .olt (v : EReal) (((2 : ℝ) ^ (((1 : ℕ) : ℤ) - 127) : ℝ) : EReal) = 1 := by
        unfold Ideal.cmp
        have : v < (2 : ℝ) ^ (((1 : ℕ) : ℤ) - 127) := by simpa using hlt
        simp only [EReal.coe_lt_coe_iff, this]; rfl
      rw [this]; rfl
    have one : powBits 127#32 = 1 := by
      have := powBits_pos 127 (by norm_num) (by norm_num)
      rw [show (127#32 : BitVec 32) = BitVec.ofNat 32 127 from rfl, this]; norm_num
    have e1 : Ideal.exp2 0 = 1 := by
      have := exp2_int 0
      simpa using this
    unfold kerScale kerInv
    rw [hk, hr, sub_zero, e1]
    exact ⟨one, one⟩
  · have hlo' := hlo hz
    have hpos : 0 < v := lt_of_lt_of_le (zpow_pos (by norm_num) _) hlo'
    have hk : kerExp v = BitVec.ofNat 32 n - 126#32 := by
      unfold kerExp; rw [hn]
      have h1 : IntOp.cmpi .eq (BitVec.ofNat 32 n) 0#32 = 0#1 := by
        unfold IntOp.cmpi
        have : (BitVec.ofNat 32 n == 0#32) = false := by
          rw [beq_eq_false_iff_ne]; intro hh
          have := congrArg BitVec.toNat hh
          rw [BitVec.toNat_ofNat, BitVec.toNat_ofNat] at this; omega
        simp only [this]; rfl
      have h2 : Ideal.cmp .oeq (v : EReal) 0 = 0#1 := by
        unfold Ideal.cmp
        have : ¬((v : EReal) = 0) := by rw [EReal.coe_eq_zero]; exact hpos.ne'
        simp only [this]; rfl
      rw [h1, h2]; rfl
    have hs : IntOp.addi (kerExp v) 127#32 = BitVec.ofNat 32 (n + 1) := by
      rw [hk]; unfold IntOp.addi
      apply BitVec.eq_of_toNat_eq
      simp only [BitVec.toNat_add, BitVec.toNat_sub, BitVec.toNat_ofNat]; omega
    have hi : IntOp.addi (IntOp.subi 0#32 (kerExp v)) 127#32 = BitVec.ofNat 32 (253 - n) := by
      rw [hk]; unfold IntOp.addi IntOp.subi
      apply BitVec.eq_of_toNat_eq
      simp only [BitVec.toNat_add, BitVec.toNat_sub, BitVec.toNat_ofNat]; omega
    have hl2 : (0 : ℝ) < Real.log 2 := Real.log_pos (by norm_num)
    have hr : refExp v = ((((n : ℤ) - 126 : ℤ) : ℝ) : EReal) := by
      unfold refExp
      rw [ofBits_min, powBits_pos 1 (by norm_num) (by norm_num), ofBits_one]
      have hge : ¬ v < (2 : ℝ) ^ (((1 : ℕ) : ℤ) - 127) := by
        rw [not_lt]; exact le_trans (zpow_le_zpow_right₀ (by norm_num) (by omega)) hlo'
      have : Ideal.cmp .olt (v : EReal) (((2 : ℝ) ^ (((1 : ℕ) : ℤ) - 127) : ℝ) : EReal) = 0 := by
        unfold Ideal.cmp; simp only [EReal.coe_lt_coe_iff, hge]; rfl
      rw [this]; unfold Scalar.select; rw [if_neg (by decide)]
      rw [Ideal.log_coe, if_neg (not_le.mpr hpos), ← EReal.coe_mul, Ideal.liftRound_coe, ← EReal.coe_add]
      have hf : Int.floor (Real.log v * (Real.log 2)⁻¹) = (n : ℤ) - 127 := by
        rw [Int.floor_eq_iff, ← div_eq_mul_inv]
        constructor
        · rw [le_div_iff₀ hl2]
          have := Real.log_le_log (zpow_pos (by norm_num) _) hlo'
          rwa [Real.log_zpow] at this
        · rw [div_lt_iff₀ hl2]
          have := Real.log_lt_log hpos hhi
          rw [Real.log_zpow] at this
          refine lt_of_lt_of_eq this ?_
          push_cast; ring
      rw [hf]; congr 1; push_cast; ring
    unfold kerScale kerInv
    rw [hs, hi, hr, powBits_pos (n + 1) (by omega) (by omega), powBits_pos (253 - n) (by omega) (by omega), exp2_int,
      show (0 : EReal) - ((((n : ℤ) - 126 : ℤ) : ℝ) : EReal) = (((126 - (n : ℤ) : ℤ) : ℝ) : EReal) by
        rw [← EReal.coe_zero, ← EReal.coe_sub]; congr 1; push_cast; ring, exp2_int]
    constructor
    · congr 2; push_cast; ring
    · congr 2; omega

end Cert.Maths

end
-- ==== Proof.KernelTiles.lean ====
/- One grid point of the kernel, element by element: the scaled logits of its ten tiles and the update of the lane
   maxima and running sums. -/
module

public import proofs.«01_k».proof.Proof.Running
public import proofs.«01_k».proof.Proof.Scale
public import proofs.«01_k».proof.Proof.KernelIdealStep
public import Idealize.ShloMosaic.Lib.Pointwise

@[expose] public section

noncomputable section

namespace Cert.KernelIdeal.Own

open Cert.KernelIdeal Cert.KernelIdeal.Gen Cert.Maths Idealize.ShloMosaic Idealize.ShloMosaic.TcCoe Idealize.SL.Sem

theorem two_eq : (Scalar.ofBits .f32 0x40000000#32 : Ideal .f32) = ((2 : ℝ) : EReal) := by
  have : (Scalar.ofBits .f32 0x40000000#32 : Ideal .f32) = powBits (BitVec.ofNat 32 128) := rfl
  rw [this, powBits_pos 128 (by norm_num) (by norm_num)]
  norm_num

section
variable (z : Fin 10 → A Ideal) (tl tt : IVec S128x128 32) (s : Carry Ideal) (j : S128x128.Idx)

theorem newM_apply : newM (z 0) (z 1) (z 2) (z 3) (z 4) (z 5) (z 6) (z 7) (z 8) (z 9) s j = max10 (s.m j) fun i => z i j := rfl

theorem newS0_apply : newS0 (z 0) (z 1) (z 2) (z 3) (z 4) (z 5) (z 6) (z 7) (z 8) (z 9) s j
    = add10 (Ideal.exp2 (s.m j - max10 (s.m j) fun i => z i j) * s.s0 j) fun i => Ideal.exp2 (z i j - max10 (s.m j) fun i => z i j) := rfl

theorem newS1_apply : newS1 (z 0) (z 1) (z 2) (z 3) (z 4) (z 5) (z 6) (z 7) (z 8) (z 9) s j
    = add10 (Ideal.exp2 (s.m j - max10 (s.m j) fun i => z i j) * (s.s1 j + (s.m j - max10 (s.m j) fun i => z i j) * s.s0 j))
        fun i => Ideal.exp2 (z i j - max10 (s.m j) fun i => z i j) * (z i j - max10 (s.m j) fun i => z i j) := rfl

theorem newS2_apply : newS2 (z 0) (z 1) (z 2) (z 3) (z 4) (z 5) (z 6) (z 7) (z 8) (z 9) s j
    = add10 (Ideal.exp2 (s.m j - max10 (s.m j) fun i => z i j) * (s.s2 j + (s.m j - max10 (s.m j) fun i => z i j) * (((2 : ℝ) : EReal) * s.s1 j + (s.m j - max10 (s.m j) fun i => z i j) * s.s0 j)))
        fun i => Ideal.exp2 (z i j - max10 (s.m j) fun i => z i j) * (z i j - max10 (s.m j) fun i => z i j) * (z i j - max10 (s.m j) fun i => z i j) := by
  rw [← two_eq]
  rfl

/-- The update of the maxima and sums at one element keeps the invariant. -/
theorem step_inv (z : Fin 10 → A Ideal) (s : Carry Ideal) (j : S128x128.Idx) (g : ℕ → EReal) (n : ℕ)
    (h : Inv g n (s.m j) (s.s0 j) (s.s1 j) (s.s2 j)) (hz : ∀ i : Fin 10, z i j = g (10 * n + i.val)) :
    Inv g (n + 1) (newM (z 0) (z 1) (z 2) (z 3) (z 4) (z 5) (z 6) (z 7) (z 8) (z 9) s j) (newS0 (z 0) (z 1) (z 2) (z 3) (z 4) (z 5) (z 6) (z 7) (z 8) (z 9) s j)
      (newS1 (z 0) (z 1) (z 2) (z 3) (z 4) (z 5) (z 6) (z 7) (z 8) (z 9) s j) (newS2 (z 0) (z 1) (z 2) (z 3) (z 4) (z 5) (z 6) (z 7) (z 8) (z 9) s j) := by
  rw [newM_apply, newS0_apply, newS1_apply, newS2_apply]
  exact inv_step g n _ _ _ _ h (fun i => z i j) hz

end

/-! ## The scaled logits -/

theorem pay29_apply (cd : Vec Ideal S128x4096 .fp8e4m3) (w : Vec Ideal S1280x4096 .fp8e4m3) (r : Fin 128) (c : Fin 1280) :
    k0_pay29 (F := Ideal) cd w (ix2 r c) = ∑ k : Fin 4096, cd (ix2 r k) * w (ix2 c k) := by
  unfold k0_pay29
  pointwise []

theorem wsTile_apply (ws : Vec Ideal S1x1280 .f32) (o : Nat) (h) (l : Fin 128) (c : Fin 1280) (hc : c.val = o + l.val) :
    wsTile (F := Ideal) ws o h (ix2 0 l) = ws (ix2 0 c) := by
  unfold wsTile VecWindow.window
  refine congrArg ws (funext fun a => Fin.ext ?_)
  fin_cases a
  · rfl
  · show o + 1 * l.val = c.val
    omega

/-- A tile's scaled logit from the product, the row scale and the weight scale. -/
def zAt (cd : Vec Ideal S128x4096 .fp8e4m3) (w : Vec Ideal S1280x4096 .fp8e4m3) (ws : Vec Ideal S1x1280 .f32) (x2 : A Ideal)
    (r l : Fin 128) (c : Fin 1280) : EReal :=
  (∑ k : Fin 4096, cd (ix2 r k) * w (ix2 c k)) * x2 (ix2 r l) * ws (ix2 0 c)

theorem z0_apply (cd : Vec Ideal S128x4096 .fp8e4m3) (w : Vec Ideal S1280x4096 .fp8e4m3) (ws : Vec Ideal S1x1280 .f32) (x2 : A Ideal) (r l : Fin 128)
    (c : Fin 1280) (hc : c.val = 0 + l.val) : z0 cd w ws x2 (ix2 r l) = zAt cd w ws x2 r l c := by
  have h := pay29_apply cd w r c
  have hw := wsTile_apply ws 0 inb_S1x1280_S1x128_0_0 l c hc
  unfold z0 k0_pay30 zAt
  rw [← h, ← hw]
  generalize k0_pay29 cd w = y at *
  generalize wsTile ws _ _ = u at *
  obtain ⟨c, hc'⟩ := c
  simp only [Nat.zero_add] at hc
  subst hc
  pointwise []

theorem z1_apply (cd : Vec Ideal S128x4096 .fp8e4m3) (w : Vec Ideal S1280x4096 .fp8e4m3) (ws : Vec Ideal S1x1280 .f32) (x2 : A Ideal) (r l : Fin 128)
    (c : Fin 1280) (hc : c.val = 128 + l.val) : z1 cd w ws x2 (ix2 r l) = zAt cd w ws x2 r l c := by
  have h := pay29_apply cd w r c
  have hw := wsTile_apply ws 128 inb_S1x1280_S1x128_0_128 l c hc
  unfold z1 k0_pay31 zAt
  rw [← h, ← hw]
  generalize k0_pay29 cd w = y at *
  generalize wsTile ws _ _ = u at *
  obtain ⟨c, hc'⟩ := c
  simp only [Nat.zero_add] at hc
  subst hc
  pointwise []

theorem z2_apply (cd : Vec Ideal S128x4096 .fp8e4m3) (w : Vec Ideal S1280x4096 .fp8e4m3) (ws : Vec Ideal S1x1280 .f32) (x2 : A Ideal) (r l : Fin 128)
    (c : Fin 1280) (hc : c.val = 256 + l.val) : z2 cd w ws x2 (ix2 r l) = zAt cd w ws x2 r l c := by
  have h := pay29_apply cd w r c
  have hw := wsTile_apply ws 256 inb_S1x1280_S1x128_0_256 l c hc
  unfold z2 k0_pay32 zAt
  rw [← h, ← hw]
  generalize k0_pay29 cd w = y at *
  generalize wsTile ws _ _ = u at *
  obtain ⟨c, hc'⟩ := c
  simp only [Nat.zero_add] at hc
  subst hc
  pointwise []

theorem z3_apply (cd : Vec Ideal S128x4096 .fp8e4m3) (w : Vec Ideal S1280x4096 .fp8e4m3) (ws : Vec Ideal S1x1280 .f32) (x2 : A Ideal) (r l : Fin 128)
    (c : Fin 1280) (hc : c.val = 384 + l.val) : z3 cd w ws x2 (ix2 r l) = zAt cd w ws x2 r l c := by
  have h := pay29_apply cd w r c
  have hw := wsTile_apply ws 384 inb_S1x1280_S1x128_0_384 l c hc
  unfold z3 k0_pay33 zAt
  rw [← h, ← hw]
  generalize k0_pay29 cd w = y at *
  generalize wsTile ws _ _ = u at *
  obtain ⟨c, hc'⟩ := c
  simp only [Nat.zero_add] at hc
  subst hc
  pointwise []

theorem z4_apply (cd : Vec Ideal S128x4096 .fp8e4m3) (w : Vec Ideal S1280x4096 .fp8e4m3) (ws : Vec Ideal S1x1280 .f32) (x2 : A Ideal) (r l : Fin 128)
    (c : Fin 1280) (hc : c.val = 512 + l.val) : z4 cd w ws x2 (ix2 r l) = zAt cd w ws x2 r l c := by
  have h := pay29_apply cd w r c
  have hw := wsTile_apply ws 512 inb_S1x1280_S1x128_0_512 l c hc
  unfold z4 k0_pay34 zAt
  rw [← h, ← hw]
  generalize k0_pay29 cd w = y at *
  generalize wsTile ws _ _ = u at *
  obtain ⟨c, hc'⟩ := c
  simp only [Nat.zero_add] at hc
  subst hc
  pointwise []

theorem z5_apply (cd : Vec Ideal S128x4096 .fp8e4m3) (w : Vec Ideal S1280x4096 .fp8e4m3) (ws : Vec Ideal S1x1280 .f32) (x2 : A Ideal) (r l : Fin 128)
    (c : Fin 1280) (hc : c.val = 640 + l.val) : z5 cd w ws x2 (ix2 r l) = zAt cd w ws x2 r l c := by
  have h := pay29_apply cd w r c
  have hw := wsTile_apply ws 640 inb_S1x1280_S1x128_0_640 l c hc
  unfold z5 k0_pay36 k0_pay35 zAt
  rw [← h, ← hw]
  generalize k0_pay29 cd w = y at *
  generalize wsTile ws _ _ = u at *
  obtain ⟨c, hc'⟩ := c
  simp only [Nat.zero_add] at hc
  subst hc
  pointwise []

theorem z6_apply (cd : Vec Ideal S128x4096 .fp8e4m3) (w : Vec Ideal S1280x4096 .fp8e4m3) (ws : Vec Ideal S1x1280 .f32) (x2 : A Ideal) (r l : Fin 128)
    (c : Fin 1280) (hc : c.val = 768 + l.val) : z6 cd w ws x2 (ix2 r l) = zAt cd w ws x2 r l c := by
  have h := pay29_apply cd w r c
  have hw := wsTile_apply ws 768 inb_S1x1280_S1x128_0_768 l c hc
  unfold z6 k0_pay37 zAt
  rw [← h, ← hw]
  generalize k0_pay29 cd w = y at *
  generalize wsTile ws _ _ = u at *
  obtain ⟨c, hc'⟩ := c
  simp only [Nat.zero_add] at hc
  subst hc
  pointwise []

theorem z7_apply (cd : Vec Ideal S128x4096 .fp8e4m3) (w : Vec Ideal S1280x4096 .fp8e4m3) (ws : Vec Ideal S1x1280 .f32) (x2 : A Ideal) (r l : Fin 128)
    (c : Fin 1280) (hc : c.val = 896 + l.val) : z7 cd w ws x2 (ix2 r l) = zAt cd w ws x2 r l c := by
  have h := pay29_apply cd w r c
  have hw := wsTile_apply ws 896 inb_S1x1280_S1x128_0_896 l c hc
  unfold z7 k0_pay38 zAt
  rw [← h, ← hw]
  generalize k0_pay29 cd w = y at *
  generalize wsTile ws _ _ = u at *
  obtain ⟨c, hc'⟩ := c
  simp only [Nat.zero_add] at hc
  subst hc
  pointwise []

theorem z8_apply (cd : Vec Ideal S128x4096 .fp8e4m3) (w : Vec Ideal S1280x4096 .fp8e4m3) (ws : Vec Ideal S1x1280 .f32) (x2 : A Ideal) (r l : Fin 128)
    (c : Fin 1280) (hc : c.val = 1024 + l.val) : z8 cd w ws x2 (ix2 r l) = zAt cd w ws x2 r l c := by
  have h := pay29_apply cd w r c
  have hw := wsTile_apply ws 1024 inb_S1x1280_S1x128_0_1024 l c hc
  unfold z8 k0_pay39 zAt
  rw [← h, ← hw]
  generalize k0_pay29 cd w = y at *
  generalize wsTile ws _ _ = u at *
  obtain ⟨c, hc'⟩ := c
  simp only [Nat.zero_add] at hc
  subst hc
  pointwise []

theorem z9_apply (cd : Vec Ideal S128x4096 .fp8e4m3) (w : Vec Ideal S1280x4096 .fp8e4m3) (ws : Vec Ideal S1x1280 .f32) (x2 : A Ideal) (r l : Fin 128)
    (c : Fin 1280) (hc : c.val = 1152 + l.val) : z9 cd w ws x2 (ix2 r l) = zAt cd w ws x2 r l c := by
  have h := pay29_apply cd w r c
  have hw := wsTile_apply ws 1152 inb_S1x1280_S1x128_0_1152 l c hc
  unfold z9 k0_pay40 zAt
  rw [← h, ← hw]
  generalize k0_pay29 cd w = y at *
  generalize wsTile ws _ _ = u at *
  obtain ⟨c, hc'⟩ := c
  simp only [Nat.zero_add] at hc
  subst hc
  pointwise []

end Cert.KernelIdeal.Own

end
-- ==== Proof.KernelTarget.lean ====
/- The gathered target logit at one grid point: the tile that holds a row's target column is read at the target's lane,
   and every other tile leaves what was gathered before. -/
module

public import proofs.«01_k».proof.Proof.KernelTiles

@[expose] public section

set_option maxRecDepth 8192

noncomputable section

namespace Cert.KernelIdeal.Own

open Cert.KernelIdeal Cert.KernelIdeal.Gen Cert.Maths Idealize.ShloMosaic Idealize.ShloMosaic.TcCoe Idealize.SL.Sem

/-- A tile read at each row's lane index. -/
def gatV (z : A Ideal) (tl : IVec S128x128 32) : A Ideal :=
  dynamicGather 1 z (shapeCast S128x128 (shapeCast S128x128x1 (select (cmpi .slt tl (broadcast S128x128 0#32)) (addi tl (broadcast S128x128 128#32)) tl)
    shapeCasts_S128x128_S128x128x1) shapeCasts_S128x128x1_S128x128)

/-- What was gathered, where the tile index is `k`, and what was there before elsewhere. -/
def pick (k : BitVec 32) (tt : IVec S128x128 32) (g old : A Ideal) : A Ideal :=
  select (cmpi .eq tt (broadcast S128x128 k)) g old

theorem pick_apply (k : BitVec 32) (tt : IVec S128x128 32) (g old : A Ideal) (j : S128x128.Idx) :
    pick k tt g old j = if tt j = k then g j else old j := by
  show Scalar.select (BitVec.ofBool (tt j == k)) (g j) (old j) = _
  unfold Scalar.select
  by_cases h : tt j = k
  · rw [h]; simp
  · have : (tt j == k) = false := by rw [beq_eq_false_iff_ne]; exact h
    rw [this, if_neg h]; rfl

theorem lane_idx (p : ℕ) (hp : p < 128) :
    Scalar.select (IntOp.cmpi .slt (BitVec.ofNat 32 p) 0#32) (IntOp.addi (BitVec.ofNat 32 p) 128#32) (BitVec.ofNat 32 p) = BitVec.ofNat 32 p := by
  have : IntOp.cmpi .slt (BitVec.ofNat 32 p) 0#32 = 0#1 := by
    unfold IntOp.cmpi
    have : (BitVec.ofNat 32 p).slt 0#32 = false := by
      rw [BitVec.slt_eq_decide, decide_eq_false_iff_not, BitVec.toInt_ofNat']
      simp only [Int.bmod_def]
      norm_num
      omega
    simp only [this]; rfl
  rw [this]; rfl

theorem gatV_apply (z : A Ideal) (tl : IVec S128x128 32) (r l p : Fin 128) (h : tl (ix2 r l) = BitVec.ofNat 32 p.val) :
    gatV z tl (ix2 r l) = z (ix2 r p) := by
  have hp := p.isLt
  unfold gatV
  rw [shapeCast_shapeCast]
  have hs : (select (cmpi .slt tl (broadcast S128x128 0#32)) (addi tl (broadcast S128x128 128#32)) tl) (ix2 r l) = BitVec.ofNat 32 p.val := by
    show Scalar.select (IntOp.cmpi .slt (tl (ix2 r l)) 0#32) (IntOp.addi (tl (ix2 r l)) 128#32) (tl (ix2 r l)) = _
    rw [h]; exact lane_idx p.val hp
  generalize select (cmpi .slt tl (broadcast S128x128 0#32)) (addi tl (broadcast S128x128 128#32)) tl = q at *
  unfold dynamicGather
  refine congrArg z (funext fun b => Fin.ext ?_)
  fin_cases b
  · rfl
  · show (q (ix2 r l)).toNat % 128 = p.val
    rw [hs, BitVec.toNat_ofNat]; omega

theorem newT_eq (z : Fin 10 → A Ideal) (tl tt : IVec S128x128 32) (s : Carry Ideal) :
    newT (z 0) (z 1) (z 2) (z 3) (z 4) (z 5) (z 6) (z 7) (z 8) (z 9) tl tt s
      = pick 9#32 tt (gatV (z 9) tl) (pick 8#32 tt (gatV (z 8) tl) (pick 7#32 tt (gatV (z 7) tl) (pick 6#32 tt (gatV (z 6) tl)
        (pick 5#32 tt (gatV (z 5) tl) (pick 4#32 tt (gatV (z 4) tl) (pick 3#32 tt (gatV (z 3) tl) (pick 2#32 tt (gatV (z 2) tl)
        (pick 1#32 tt (gatV (z 1) tl) (pick 0#32 tt (gatV (z 0) tl) s.t))))))))) := by
  unfold newT preT k0_pay1 k0_pay95 k0_pay80 k0_pay66 k0_pay58 k0_pay59 k0_pay73 k0_pay87 k0_pay88 k0_pay102 pick gatV
  exact rfl

/-! ## Words -/

theorem word_lane (a : BitVec 32) : IntOp.andi a 127#32 = BitVec.ofNat 32 (a.toNat % 128) := by
  unfold IntOp.andi
  apply BitVec.eq_of_toNat_eq
  rw [BitVec.toNat_and, BitVec.toNat_ofNat, BitVec.toNat_ofNat]
  have : a.toNat &&& 127 = a.toNat % 128 := Nat.and_two_pow_sub_one_eq_mod a.toNat 7
  have h2 := Nat.mod_lt a.toNat (show 128 > 0 by norm_num)
  rw [Nat.mod_eq_of_lt (show 127 < 2 ^ 32 by norm_num), this, Nat.mod_eq_of_lt (show a.toNat % 128 < 2 ^ 32 by omega)]

theorem word_tile (a : BitVec 32) (h : a.toNat < 32000) : IntOp.shrsi .vector a 7#32 = BitVec.ofNat 32 (a.toNat / 128) := by
  unfold IntOp.shrsi
  rw [if_pos (by decide)]
  have hm : a.msb = false := by rw [BitVec.msb_eq_false_iff_two_mul_lt]; omega
  show a.sshiftRight 7 = _
  rw [BitVec.sshiftRight_eq_of_msb_false hm]
  apply BitVec.eq_of_toNat_eq
  rw [BitVec.toNat_ushiftRight, BitVec.toNat_ofNat, Nat.shiftRight_eq_div_pow]
  have : a.toNat / 128 < 2 ^ 32 := by omega
  rw [Nat.mod_eq_of_lt this]

theorem word_hit (T n : ℕ) (hT : T < 250) (hn : n < 25) (k : ℕ) (hk : k < 10) :
    IntOp.subi (BitVec.ofNat 32 T) (IntOp.muli (BitVec.ofNat 32 n) 10#32) = BitVec.ofNat 32 k ↔ T = 10 * n + k := by
  unfold IntOp.subi IntOp.muli
  constructor
  · intro h
    have := congrArg BitVec.toNat h
    simp only [BitVec.toNat_sub, BitVec.toNat_mul, BitVec.toNat_ofNat] at this
    omega
  · intro h
    apply BitVec.eq_of_toNat_eq
    simp only [BitVec.toNat_sub, BitVec.toNat_mul, BitVec.toNat_ofNat]
    omega

/-- Ten tiles carry the gathered target logit on. -/
theorem target_step (z : Fin 10 → A Ideal) (tl tt : IVec S128x128 32) (s : Carry Ideal) (r l p : Fin 128) (T n : ℕ) (hT : T < 250) (hn : n < 25)
    (htl : tl (ix2 r l) = BitVec.ofNat 32 p.val) (htt : tt (ix2 r l) = IntOp.subi (BitVec.ofNat 32 T) (IntOp.muli (BitVec.ofNat 32 n) 10#32))
    (g : ℕ → EReal) (hz : ∀ i : Fin 10, z i (ix2 r p) = g (10 * n + i.val)) (ht : s.t (ix2 r l) = if T < 10 * n then g T else 0) :
    newT (z 0) (z 1) (z 2) (z 3) (z 4) (z 5) (z 6) (z 7) (z 8) (z 9) tl tt s (ix2 r l) = if T < 10 * (n + 1) then g T else 0 := by
  have h9 : tt (ix2 r l) = 9#32 ↔ T = 10 * n + 9 := by rw [htt]; exact word_hit T n hT hn 9 (by norm_num)
  have h8 : tt (ix2 r l) = 8#32 ↔ T = 10 * n + 8 := by rw [htt]; exact word_hit T n hT hn 8 (by norm_num)
  have h7 : tt (ix2 r l) = 7#32 ↔ T = 10 * n + 7 := by rw [htt]; exact word_hit T n hT hn 7 (by norm_num)
  have h6 : tt (ix2 r l) = 6#32 ↔ T = 10 * n + 6 := by rw [htt]; exact word_hit T n hT hn 6 (by norm_num)
  have h5 : tt (ix2 r l) = 5#32 ↔ T = 10 * n + 5 := by rw [htt]; exact word_hit T n hT hn 5 (by norm_num)
  have h4 : tt (ix2 r l) = 4#32 ↔ T = 10 * n + 4 := by rw [htt]; exact word_hit T n hT hn 4 (by norm_num)
  have h3 : tt (ix2 r l) = 3#32 ↔ T = 10 * n + 3 := by rw [htt]; exact word_hit T n hT hn 3 (by norm_num)
  have h2 : tt (ix2 r l) = 2#32 ↔ T = 10 * n + 2 := by rw [htt]; exact word_hit T n hT hn 2 (by norm_num)
  have h1 : tt (ix2 r l) = 1#32 ↔ T = 10 * n + 1 := by rw [htt]; exact word_hit T n hT hn 1 (by norm_num)
  have h0 : tt (ix2 r l) = 0#32 ↔ T = 10 * n + 0 := by rw [htt]; exact word_hit T n hT hn 0 (by norm_num)
  rw [newT_eq]
  simp only [pick_apply, gatV_apply _ tl r l p htl, h0, h1, h2, h3, h4, h5, h6, h7, h8, h9, ht]
  have e := hz
  clear htt h0 h1 h2 h3 h4 h5 h6 h7 h8 h9 htl ht
  have e0 := e 0
  have e1 := e 1
  have e2 := e 2
  have e3 := e 3
  have e4 := e 4
  have e5 := e 5
  have e6 := e 6
  have e7 := e 7
  have e8 := e 8
  have e9 := e 9
  rw [e0, e1, e2, e3, e4, e5, e6, e7, e8, e9]
  by_cases ha : T < 10 * n
  · rw [if_neg (by omega), if_neg (by omega), if_neg (by omega), if_neg (by omega), if_neg (by omega), if_neg (by omega), if_neg (by omega),
      if_neg (by omega), if_neg (by omega), if_neg (by omega), if_pos ha, if_pos (by omega)]
  · by_cases hb : T < 10 * (n + 1)
    · obtain ⟨k, hk, rfl⟩ : ∃ k, k < 10 ∧ T = 10 * n + k := ⟨T - 10 * n, by omega, by omega⟩
      rw [if_pos hb]
      clear e e0 e1 e2 e3 e4 e5 e6 e7 e8 e9 hz
      interval_cases k <;> simp
    · rw [if_neg (by omega), if_neg (by omega), if_neg (by omega), if_neg (by omega), if_neg (by omega), if_neg (by omega), if_neg (by omega),
        if_neg (by omega), if_neg (by omega), if_neg (by omega), if_neg ha, if_neg hb]

theorem pay45_apply (tg : Vec Ideal S128x7 .i32) (r : Fin 128) (l : Fin 7) :
    k0_pay45 (F := Ideal) tg (ix2 r ⟨l.val, by have := l.isLt; omega⟩ : S128x128.Idx) = tg (ix2 r l) := by
  unfold k0_pay45
  rw [shapeCast_self]
  exact concatenate_pair_apply_left (t := S128x128) (s₁ := S128x7) (s₂ := S128x121) 1 tg _ _ _ rfl (ix2 r l) fun b => by
    match b with
    | ⟨0, _⟩ => rfl
    | ⟨1, _⟩ => rfl

theorem tl_apply (tg : Vec Ideal S128x7 .i32) (r : Fin 128) (l : Fin 7) :
    k0_pay46 (F := Ideal) tg (ix2 r ⟨l.val, by have := l.isLt; omega⟩ : S128x128.Idx) = BitVec.ofNat 32 ((tg (ix2 r l) : BitVec 32).toNat % 128) := by
  rw [← word_lane, ← pay45_apply tg r l]
  unfold k0_pay46
  exact rfl

theorem tt_apply (tg : Vec Ideal S128x7 .i32) (r : Fin 128) (l : Fin 7) (h : (tg (ix2 r l) : BitVec 32).toNat < 32000) (v : BitVec 32) :
    k0_pay48 (k0_pay47 (F := Ideal) tg) v (ix2 r ⟨l.val, by have := l.isLt; omega⟩ : S128x128.Idx)
      = IntOp.subi (BitVec.ofNat 32 ((tg (ix2 r l) : BitVec 32).toNat / 128)) v := by
  rw [← word_tile _ h, ← pay45_apply tg r l]
  unfold k0_pay48 k0_pay47
  exact rfl

end Cert.KernelIdeal.Own

end
-- ==== Proof.KernelOut.lean ====
/- The kernel's three row results from what is carried after the last point. -/
module

public import proofs.«01_k».proof.Proof.KernelTiles

@[expose] public section

set_option maxRecDepth 8192

noncomputable section

namespace Cert.KernelIdeal.Own

open Cert.KernelIdeal Cert.KernelIdeal.Gen Cert.Maths Idealize.ShloMosaic Idealize.ShloMosaic.TcCoe Idealize.SL.Sem

theorem log2e_val : (Named.named κ "log2e" 0x3FB8AA3B#32 : Ideal .f32) = (((Real.log 2)⁻¹ : ℝ) : EReal) :=
  IdealRules.named_const.ideal_named_scalar _ _ _ _ rfl
theorem ln2_val : (Named.named κ "ln2" 0x3F317218#32 : Ideal .f32) = ((Real.log 2 : ℝ) : EReal) :=
  IdealRules.named_const.ideal_named_scalar _ _ _ _ rfl
theorem ln2_sq_val : (Named.named κ "ln2_sq" 0x3EF5FDF0#32 : Ideal .f32) = ((Real.log 2 * Real.log 2 : ℝ) : EReal) :=
  IdealRules.named_const.ideal_named_scalar _ _ _ _ rfl

theorem ofBits_bot : Ideal.ofBits .f32 0xFF800000#32 = (⊥ : EReal) := by
  show Ideal.ieee 8 23 0xFF800000#32 = _
  have h1 : ((0xFF800000#32 : BitVec 32).extractLsb' 31 1 == 1#1) = true := by decide
  have h2 : ((0xFF800000#32 : BitVec 32).extractLsb' 23 8).toNat = 255 := by decide
  have h3 : ((0xFF800000#32 : BitVec 32).extractLsb' 0 23).toNat = 0 := by decide
  unfold Ideal.ieee
  simp only [Nat.reduceAdd, Nat.reducePow, Nat.reduceSub, h1, h2, h3, if_true]

/-- The largest lane of a row. -/
def M (v : A Ideal) (r : Fin 128) : EReal := Finset.univ.sup fun l : Fin 128 => v (ix2 r l)

theorem pay20_apply (v : A Ideal) (r : Fin 128) (l : Fin 1) : k0_pay20 (F := Ideal) v (ix2 r l) = M v r := by
  unfold k0_pay20
  pointwise []
  unfold M
  rw [ofBits_bot]
  exact rfl

theorem pay21_apply (v : A Ideal) (r l : Fin 128) : k0_pay21 (F := Ideal) v (ix2 r l) = v (ix2 r l) - M v r := by
  have h := pay20_apply v r
  unfold k0_pay21
  generalize k0_pay20 (F := Ideal) v = y at *
  pointwise []
  rw [h]

theorem pay22_apply (v : A Ideal) (r l : Fin 128) : k0_pay22 (F := Ideal) v (ix2 r l) = Ideal.exp2 (v (ix2 r l) - M v r) := by
  rw [← pay21_apply]; rfl

theorem pay23_apply (v s0 : A Ideal) (r : Fin 128) (l : Fin 1) :
    k0_pay23 (F := Ideal) v s0 (ix2 r l) = ∑ l : Fin 128, Ideal.exp2 (v (ix2 r l) - M v r) * s0 (ix2 r l) := by
  have h := pay22_apply v r
  unfold k0_pay23
  generalize k0_pay22 (F := Ideal) v = y at *
  pointwise []
  simp only [h]

theorem pay24_apply (v s0 s1 : A Ideal) (r : Fin 128) (l : Fin 1) :
    k0_pay24 (F := Ideal) v s0 s1 (ix2 r l) = Ideal.div (∑ l : Fin 128, Ideal.exp2 (v (ix2 r l) - M v r) * (s1 (ix2 r l) + (v (ix2 r l) - M v r) * s0 (ix2 r l)))
      (∑ l : Fin 128, Ideal.exp2 (v (ix2 r l) - M v r) * s0 (ix2 r l)) := by
  have h := pay22_apply v r
  have h1 := pay21_apply v r
  have h2 := pay23_apply v s0 r
  unfold k0_pay24
  generalize k0_pay22 (F := Ideal) v = y at *
  generalize k0_pay21 (F := Ideal) v = y1 at *
  generalize k0_pay23 (F := Ideal) v s0 = y2 at *
  pointwise []
  simp only [h, h1, h2]
  try rfl

theorem pay25_apply (v s0 : A Ideal) (r : Fin 128) (l : Fin 1) :
    k0_pay25 (F := Ideal) v s0 (ix2 r l) = Ideal.log (∑ l : Fin 128, Ideal.exp2 (v (ix2 r l) - M v r) * s0 (ix2 r l)) * (((Real.log 2)⁻¹ : ℝ) : EReal) := by
  rw [← pay23_apply v s0 r l, ← log2e_val]
  unfold k0_pay25
  exact rfl

/-- What the entropy's row is before it is laid out along the lanes. -/
theorem entOf_apply (s : Carry Ideal) (r : Fin 128) (l : Fin 1) :
    (entOf s (ix2 l r) : EReal) = ((k0_pay25 (F := Ideal) s.m s.s0 (ix2 r 0) : EReal) - (k0_pay24 (F := Ideal) s.m s.s0 s.s1 (ix2 r 0) : EReal)) * ((Real.log 2 : ℝ) : EReal) := by
  rw [← ln2_val]
  unfold entOf k0_pay26
  generalize k0_pay25 (F := Ideal) s.m s.s0 = y
  generalize k0_pay24 (F := Ideal) s.m s.s0 s.s1 = y1
  pointwise []

theorem varOf_apply (s : Carry Ideal) (r : Fin 128) (l : Fin 1) :
    (varOf s (ix2 l r) : EReal) = (Ideal.div (∑ l : Fin 128, Ideal.exp2 (s.m (ix2 r l) - M s.m r) * (s.s2 (ix2 r l) + (s.m (ix2 r l) - M s.m r) * (((2 : ℝ) : EReal) * s.s1 (ix2 r l) + (s.m (ix2 r l) - M s.m r) * s.s0 (ix2 r l))))
        (∑ l : Fin 128, Ideal.exp2 (s.m (ix2 r l) - M s.m r) * s.s0 (ix2 r l))
      - (k0_pay24 (F := Ideal) s.m s.s0 s.s1 (ix2 r 0) : EReal) * (k0_pay24 (F := Ideal) s.m s.s0 s.s1 (ix2 r 0) : EReal)) * ((Real.log 2 * Real.log 2 : ℝ) : EReal) := by
  have h := pay22_apply s.m r
  have h1 := pay21_apply s.m r
  have h2 := pay23_apply s.m s.s0 r
  rw [← ln2_sq_val, ← two_eq]
  unfold varOf k0_pay27
  generalize k0_pay24 (F := Ideal) s.m s.s0 s.s1 = y3
  generalize k0_pay22 (F := Ideal) s.m = y at *
  generalize k0_pay21 (F := Ideal) s.m = y1 at *
  generalize k0_pay23 (F := Ideal) s.m s.s0 = y2 at *
  pointwise []
  simp only [h, h1, h2]
  try rfl

theorem lpOf_apply (s : Carry Ideal) (r : Fin 128) (l : Fin 7) :
    (lpOf s (ix2 r l) : EReal) = (s.t (ix2 r ⟨l.val, by have := l.isLt; omega⟩) - (M s.m r + (k0_pay25 (F := Ideal) s.m s.s0 (ix2 r 0) : EReal))) * ((Real.log 2 : ℝ) : EReal) := by
  have h := pay20_apply s.m r
  rw [← ln2_val]
  unfold lpOf k0_pay28
  generalize k0_pay25 (F := Ideal) s.m s.s0 = y
  generalize k0_pay20 (F := Ideal) s.m = y1 at *
  pointwise []
  rw [h]

section final
variable (s : Carry Ideal) (r : Fin 128) (f : Fin 32000 → EReal) (g : Fin 128 → ℕ → EReal)
  (hg : ∀ (l : Fin 128) (j : ℕ) (hc : 128 * j + l.val < 32000), g l j = f ⟨128 * j + l.val, hc⟩ * (((Real.log 2)⁻¹ : ℝ) : EReal))
  (hi : ∀ l : Fin 128, Inv (g l) 25 (s.m (ix2 r l)) (s.s0 (ix2 r l)) (s.s1 (ix2 r l)) (s.s2 (ix2 r l)))
include hg hi

theorem M_eq : M s.m r = top f * (((Real.log 2)⁻¹ : ℝ) : EReal) :=
  lanes_max f g (Real.log 2)⁻¹ (inv_pos.mpr (Real.log_pos (by norm_num))) hg (fun l => s.m (ix2 r l)) (fun l => s.s0 (ix2 r l)) (fun l => s.s1 (ix2 r l))
    (fun l => s.s2 (ix2 r l)) hi (fun l B h => (hi l).least B fun j hj => h j (by omega))

theorem sum0_eq : ∑ l : Fin 128, Ideal.exp2 (s.m (ix2 r l) - M s.m r) * s.s0 (ix2 r l) = (Ek 0 f : EReal) :=
  lanes0 f g hg (fun l => s.m (ix2 r l)) (fun l => s.s0 (ix2 r l)) (fun l => s.s1 (ix2 r l)) (fun l => s.s2 (ix2 r l)) hi (M s.m r) (M_eq s r f g hg hi)
    fun l => Finset.le_sup (f := fun l : Fin 128 => s.m (ix2 r l)) (Finset.mem_univ l)

theorem sum1_eq : ∑ l : Fin 128, Ideal.exp2 (s.m (ix2 r l) - M s.m r) * (s.s1 (ix2 r l) + (s.m (ix2 r l) - M s.m r) * s.s0 (ix2 r l))
    = ((Ek 1 f * (Real.log 2)⁻¹ : ℝ) : EReal) :=
  lanes1 f g hg (fun l => s.m (ix2 r l)) (fun l => s.s0 (ix2 r l)) (fun l => s.s1 (ix2 r l)) (fun l => s.s2 (ix2 r l)) hi (M s.m r) (M_eq s r f g hg hi)
    fun l => Finset.le_sup (f := fun l : Fin 128 => s.m (ix2 r l)) (Finset.mem_univ l)

theorem sum2_eq : ∑ l : Fin 128, Ideal.exp2 (s.m (ix2 r l) - M s.m r) * (s.s2 (ix2 r l) + (s.m (ix2 r l) - M s.m r) * (((2 : ℝ) : EReal) * s.s1 (ix2 r l) + (s.m (ix2 r l) - M s.m r) * s.s0 (ix2 r l)))
    = ((Ek 2 f * (Real.log 2)⁻¹ ^ 2 : ℝ) : EReal) :=
  lanes2 f g hg (fun l => s.m (ix2 r l)) (fun l => s.s0 (ix2 r l)) (fun l => s.s1 (ix2 r l)) (fun l => s.s2 (ix2 r l)) hi (M s.m r) (M_eq s r f g hg hi)
    fun l => Finset.le_sup (f := fun l : Fin 128 => s.m (ix2 r l)) (Finset.mem_univ l)

theorem entOf_eq (l : Fin 1) : entOf s (ix2 l r) = Hr f := by
  rw [entOf_apply, pay25_apply, pay24_apply, sum0_eq s r f g hg hi, sum1_eq s r f g hg hi, entropy_eq]

theorem varOf_eq (l : Fin 1) : varOf s (ix2 l r) = Vr f := by
  rw [varOf_apply, pay24_apply, sum0_eq s r f g hg hi, sum1_eq s r f g hg hi, sum2_eq s r f g hg hi, varentropy_eq]

theorem lpOf_eq (l : Fin 7) (c : Fin 32000) (ht : s.t (ix2 r ⟨l.val, by have := l.isLt; omega⟩) = f c * (((Real.log 2)⁻¹ : ℝ) : EReal)) :
    lpOf s (ix2 r l) = f c - (top f + Ideal.log (Ek 0 f : EReal)) := by
  rw [lpOf_apply, pay25_apply, sum0_eq s r f g hg hi, M_eq s r f g hg hi, ht, logprob_eq]

end final

end Cert.KernelIdeal.Own

end
-- ==== Proof.KernelCarry.lean ====
/- What the kernel carries, over its 25 points: the running moments of every lane's columns, and the gathered target logit. -/
module

public import proofs.«01_k».proof.Proof.KernelBlocks
public import proofs.«01_k».proof.Proof.KernelTarget
public import proofs.«01_k».proof.Proof.KernelOut

@[expose] public section

set_option maxRecDepth 16384

noncomputable section

namespace Cert.KernelIdeal.Own

open Cert.KernelIdeal Cert.KernelIdeal.Gen Cert.Maths Idealize.ShloMosaic Idealize.ShloMosaic.TcCoe Idealize.SL.Sem

/-- The ten tiles of a point. -/
def zT (cd : Vec Ideal S128x4096 .fp8e4m3) (w : Vec Ideal S1280x4096 .fp8e4m3) (ws : Vec Ideal S1x1280 .f32) (x2 : A Ideal) : Fin 10 → A Ideal
  | ⟨0, _⟩ => z0 cd w ws x2
  | ⟨1, _⟩ => z1 cd w ws x2
  | ⟨2, _⟩ => z2 cd w ws x2
  | ⟨3, _⟩ => z3 cd w ws x2
  | ⟨4, _⟩ => z4 cd w ws x2
  | ⟨5, _⟩ => z5 cd w ws x2
  | ⟨6, _⟩ => z6 cd w ws x2
  | ⟨7, _⟩ => z7 cd w ws x2
  | ⟨8, _⟩ => z8 cd w ws x2
  | ⟨9, _⟩ => z9 cd w ws x2

theorem zT_apply (cd : Vec Ideal S128x4096 .fp8e4m3) (w : Vec Ideal S1280x4096 .fp8e4m3) (ws : Vec Ideal S1x1280 .f32) (x2 : A Ideal) (r l : Fin 128)
    (i : Fin 10) (c : Fin 1280) (hc : c.val = 128 * i.val + l.val) : zT cd w ws x2 i (ix2 r l) = zAt cd w ws x2 r l c := by
  match i, hc with
  | ⟨0, _⟩, hc => exact z0_apply cd w ws x2 r l c hc
  | ⟨1, _⟩, hc => exact z1_apply cd w ws x2 r l c hc
  | ⟨2, _⟩, hc => exact z2_apply cd w ws x2 r l c hc
  | ⟨3, _⟩, hc => exact z3_apply cd w ws x2 r l c hc
  | ⟨4, _⟩, hc => exact z4_apply cd w ws x2 r l c hc
  | ⟨5, _⟩, hc => exact z5_apply cd w ws x2 r l c hc
  | ⟨6, _⟩, hc => exact z6_apply cd w ws x2 r l c hc
  | ⟨7, _⟩, hc => exact z7_apply cd w ws x2 r l c hc
  | ⟨8, _⟩, hc => exact z8_apply cd w ws x2 r l c hc
  | ⟨9, _⟩, hc => exact z9_apply cd w ws x2 r l c hc

theorem pay42_apply (j : S128x128.Idx) : k0_pay42 (F := Ideal) j = (0 : EReal) := by
  unfold k0_pay42
  pointwise []
  try exact Ideal.ofBits_zero_f32
theorem pay43_apply (j : S128x128.Idx) : k0_pay43 (F := Ideal) j = (0 : EReal) := by
  unfold k0_pay43
  pointwise []
  try exact Ideal.ofBits_zero_f32
theorem pay44_apply (j : S128x128.Idx) : k0_pay44 (F := Ideal) j = (0 : EReal) := by
  unfold k0_pay44
  pointwise []
  try exact Ideal.ofBits_zero_f32
theorem pay19_apply (j : S128x128.Idx) : k0_pay19 (F := Ideal) j = (0 : EReal) := by
  unfold k0_pay19
  rw [shapeCast_self]
  pointwise []
  try exact Ideal.ofBits_zero_f32

/-- One point carries the gathered target logit on, over any blocks. -/
theorem point_target (i : grid0.Coords) (cd : Vec Ideal S128x4096 .fp8e4m3) (w : Vec Ideal S1280x4096 .fp8e4m3) (ws : Vec Ideal S1x1280 .f32) (tg : Vec Ideal S128x7 .i32)
    (x2 : A Ideal) (s : Carry Ideal) (r : Fin 128) (l : Fin 7) (a : ℕ) (ha : (tg (ix2 r l) : BitVec 32).toNat = a) (hlt : a < 32000) (n : ℕ) (hn : n < 25)
    (hi : (i 0).val = n) (g : ℕ → EReal) (hz : ∀ k : Fin 10, zT cd w ws x2 k (ix2 r ⟨a % 128, Nat.mod_lt _ (by norm_num)⟩) = g (10 * n + k.val))
    (hs : s.t (ix2 r ⟨l.val, by have := l.isLt; omega⟩) = if a / 128 < 10 * n then g (a / 128) else 0) :
    (stepC i cd w ws tg x2 s).t (ix2 r ⟨l.val, by have := l.isLt; omega⟩) = if a / 128 < 10 * (n + 1) then g (a / 128) else 0 := by
  have htl := tl_apply tg r l
  have htt := tt_apply tg r l (by rw [ha]; exact hlt) (IntOp.muli (BitVec.ofNat 32 n) 10#32)
  rw [ha] at htl htt
  have e : Scalar.muli (BitVec.ofNat 32 n) 10#32 = IntOp.muli (BitVec.ofNat 32 n) 10#32 := rfl
  have e2 : (stepC i cd w ws tg x2 s).t = newT (zT cd w ws x2 0) (zT cd w ws x2 1) (zT cd w ws x2 2) (zT cd w ws x2 3) (zT cd w ws x2 4) (zT cd w ws x2 5)
      (zT cd w ws x2 6) (zT cd w ws x2 7) (zT cd w ws x2 8) (zT cd w ws x2 9) (k0_pay46 (F := Ideal) tg)
      (k0_pay48 (k0_pay47 (F := Ideal) tg) (Scalar.muli (BitVec.ofNat 32 (i 0).val) 10#32)) s := rfl
  rw [e2, hi, e]
  generalize k0_pay46 (F := Ideal) tg = tl at *
  generalize k0_pay48 (k0_pay47 (F := Ideal) tg) (IntOp.muli (BitVec.ofNat 32 n) 10#32) = tt at *
  exact target_step (zT cd w ws x2) tl tt s r ⟨l.val, by have := l.isLt; omega⟩ ⟨a % 128, Nat.mod_lt _ (by norm_num)⟩ (a / 128) n (by omega) hn htl htt g hz hs

variable (m : (ℓ : Loc nD τ sig) → Buf (Elt Ideal) ℓ) (c : Dev nD)

/-- A row's logits, from the codes, the weights, the row's scale and the weight scales. -/
def fK (S : Fin 128 → EReal) (r : Fin 128) (j : Fin 32000) : EReal :=
  (∑ k : Fin 4096, cd0 m c (ix2 r k) * m ((c : Thread nD τ).loc main_arg1) (ix2 j k)) * S r * m ((c : Thread nD τ).loc main_arg2) (ix1 j)

/-- The same in base 2, column `128 j + l`, and zero beyond the last column. -/
def gK (S : Fin 128 → EReal) (r l : Fin 128) (j : ℕ) : EReal :=
  if h : 128 * j + l.val < 32000 then fK m c S r ⟨128 * j + l.val, h⟩ * (((Real.log 2)⁻¹ : ℝ) : EReal) else 0

section
variable (S : Fin 128 → EReal) (hS : ∀ r l : Fin 128, x20 m c (ix2 r l) = S r * (((Real.log 2)⁻¹ : ℝ) : EReal))
include hS

theorem tile_eq (t : Fin cfg0.N) (r l : Fin 128) (i : Fin 10) :
    zT (cd0 m c) (iblk m c 1 t) (iblk m c 2 t) (x20 m c) i (ix2 r l) = gK m c S r l (10 * t.val + i.val) := by
  have ht := lt25 t
  have hi := i.isLt
  have hl := l.isLt
  have hb : 128 * (10 * t.val + i.val) + l.val < 32000 := by omega
  have ha : 128 * i.val + l.val < 1280 := by omega
  rw [zT_apply (cd0 m c) (iblk m c 1 t) (iblk m c 2 t) (x20 m c) r l i ⟨128 * i.val + l.val, ha⟩ rfl]
  unfold zAt gK
  rw [dif_pos hb, hS]
  unfold fK
  rw [iblk2 m c t ⟨128 * i.val + l.val, ha⟩ ⟨128 * (10 * t.val + i.val) + l.val, hb⟩ (by show 128 * (10 * t.val + i.val) + l.val = 1280 * t.val + (128 * i.val + l.val); omega),
    Finset.sum_congr rfl fun k _ => by
      rw [iblk1 m c t ⟨128 * i.val + l.val, ha⟩ k ⟨128 * (10 * t.val + i.val) + l.val, hb⟩ (by show 128 * (10 * t.val + i.val) + l.val = 1280 * t.val + (128 * i.val + l.val); omega)]]
  rw [← mul_assoc, mul_right_comm]

theorem carry_inv (r l : Fin 128) : ∀ (n : ℕ) (h : n < cfg0.N),
    Inv (gK m c S r l) (n + 1) ((carry m c n h).m (ix2 r l)) ((carry m c n h).s0 (ix2 r l)) ((carry m c n h).s1 (ix2 r l)) ((carry m c n h).s2 (ix2 r l))
  | 0, h => by
    refine step_inv (zT (cd0 m c) (iblk m c 1 ⟨0, h⟩) (iblk m c 2 ⟨0, h⟩) (x20 m c)) (initC (cd0 m c) (iblk m c 1 ⟨0, h⟩) (iblk m c 2 ⟨0, h⟩) (x20 m c))
      (ix2 r l) (gK m c S r l) 0 ?_ (fun i => tile_eq m c S hS ⟨0, h⟩ r l i)
    have e : (initC (cd0 m c) (iblk m c 1 ⟨0, h⟩) (iblk m c 2 ⟨0, h⟩) (x20 m c)).m (ix2 r l) = gK m c S r l 0 := tile_eq m c S hS ⟨0, h⟩ r l 0
    rw [e, show (initC (cd0 m c) (iblk m c 1 ⟨0, h⟩) (iblk m c 2 ⟨0, h⟩) (x20 m c)).s0 (ix2 r l) = (0 : EReal) from pay42_apply (ix2 r l),
      show (initC (cd0 m c) (iblk m c 1 ⟨0, h⟩) (iblk m c 2 ⟨0, h⟩) (x20 m c)).s1 (ix2 r l) = (0 : EReal) from pay43_apply (ix2 r l),
      show (initC (cd0 m c) (iblk m c 1 ⟨0, h⟩) (iblk m c 2 ⟨0, h⟩) (x20 m c)).s2 (ix2 r l) = (0 : EReal) from pay44_apply (ix2 r l)]
    exact inv_init _
  | n + 1, h =>
    step_inv (zT (cd0 m c) (iblk m c 1 ⟨n + 1, h⟩) (iblk m c 2 ⟨n + 1, h⟩) (x20 m c)) (carry m c n (Nat.lt_of_succ_lt h)) (ix2 r l) (gK m c S r l) (n + 1)
      (carry_inv r l n (Nat.lt_of_succ_lt h)) (fun i => tile_eq m c S hS ⟨n + 1, h⟩ r l i)

theorem coord_val (t : Fin cfg0.N) : (grid0.coords t 0).val = t.val := by
  have ht := lt25 t
  have e0 : (grid0.coords t 0).val = t.val / 1 % 25 := Pipeline.Grid.coords_val t 0 (by decide) rfl
  omega

section
variable (r : Fin 128) (l : Fin 7) (a : ℕ) (ha : (m ((c : Thread nD τ).loc main_arg3) (ix3 0 r l) : BitVec 32).toNat = a) (hlt : a < 32000)
include ha hlt

/-- One point carries the gathered target logit on, from what was carried before. -/
theorem target_point (t : Fin cfg0.N) (s : Carry Ideal)
    (hs : s.t (ix2 r ⟨l.val, by have := l.isLt; omega⟩) = if a / 128 < 10 * t.val then gK m c S r ⟨a % 128, Nat.mod_lt _ (by norm_num)⟩ (a / 128) else 0) :
    (stepC (grid0.coords t) (cd0 m c) (iblk m c 1 t) (iblk m c 2 t) (iblk m c 3 t) (x20 m c) s).t (ix2 r ⟨l.val, by have := l.isLt; omega⟩)
      = if a / 128 < 10 * (t.val + 1) then gK m c S r ⟨a % 128, Nat.mod_lt _ (by norm_num)⟩ (a / 128) else 0 := by
  have ht := lt25 t
  have h3 : (iblk m c 3 t (ix2 r l) : BitVec 32).toNat = a := by rw [iblk3]; exact ha
  exact point_target (grid0.coords t) (cd0 m c) (iblk m c 1 t) (iblk m c 2 t) (iblk m c 3 t) (x20 m c) s r l a h3 hlt t.val ht (coord_val m c S hS t)
    (gK m c S r ⟨a % 128, Nat.mod_lt _ (by norm_num)⟩) (fun i => tile_eq m c S hS t r _ i) hs

theorem carry_target : ∀ (n : ℕ) (h : n < cfg0.N), (carry m c n h).t (ix2 r ⟨l.val, by have := l.isLt; omega⟩)
      = if a / 128 < 10 * (n + 1) then gK m c S r ⟨a % 128, Nat.mod_lt _ (by norm_num)⟩ (a / 128) else 0
  | 0, h => by
    refine target_point m c S hS r l a ha hlt ⟨0, h⟩ (initC (cd0 m c) (iblk m c 1 ⟨0, h⟩) (iblk m c 2 ⟨0, h⟩) (x20 m c)) ?_
    rw [if_neg (by dsimp only; omega)]
    exact pay19_apply (ix2 r ⟨l.val, by have := l.isLt; omega⟩ : S128x128.Idx)
  | n + 1, h => target_point m c S hS r l a ha hlt ⟨n + 1, h⟩ (carry m c n (Nat.lt_of_succ_lt h)) (carry_target n (Nat.lt_of_succ_lt h))

end

theorem gK_eq (r l : Fin 128) (j : ℕ) (hc : 128 * j + l.val < 32000) :
    gK m c S r l j = fK m c S r ⟨128 * j + l.val, hc⟩ * (((Real.log 2)⁻¹ : ℝ) : EReal) := by
  unfold gK; rw [dif_pos hc]

theorem ent_val (h : 24 < cfg0.N) (r : Fin 128) (b : Fin 1) : entOf (carry m c 24 h) (ix2 b r) = Hr (fK m c S r) :=
  entOf_eq (carry m c 24 h) r (fK m c S r) (gK m c S r) (gK_eq m c S hS r) (fun l => carry_inv m c S hS r l 24 h) b

theorem var_val (h : 24 < cfg0.N) (r : Fin 128) (b : Fin 1) : varOf (carry m c 24 h) (ix2 b r) = Vr (fK m c S r) :=
  varOf_eq (carry m c 24 h) r (fK m c S r) (gK m c S r) (gK_eq m c S hS r) (fun l => carry_inv m c S hS r l 24 h) b

theorem lp_val (h : 24 < cfg0.N) (r : Fin 128) (l : Fin 7) (hlt : (m ((c : Thread nD τ).loc main_arg3) (ix3 0 r l) : BitVec 32).toNat < 32000) :
    lpOf (carry m c 24 h) (ix2 r l) = fK m c S r ⟨(m ((c : Thread nD τ).loc main_arg3) (ix3 0 r l) : BitVec 32).toNat, hlt⟩
      - (top (fK m c S r) + Ideal.log (Ek 0 (fK m c S r) : EReal)) := by
  refine lpOf_eq (carry m c 24 h) r (fK m c S r) (gK m c S r) (gK_eq m c S hS r) (fun l => carry_inv m c S hS r l 24 h) l _ ?_
  rw [carry_target m c S hS r l _ rfl hlt 24 h]
  generalize (m ((c : Thread nD τ).loc main_arg3) (ix3 0 r l) : BitVec 32).toNat = a at *
  have e : 128 * (a / 128) + a % 128 = a := Nat.div_add_mod a 128
  rw [if_pos (by omega), gK_eq m c S hS r ⟨a % 128, Nat.mod_lt _ (by norm_num)⟩ (a / 128) (by show 128 * (a / 128) + a % 128 < 32000; omega)]
  have : (⟨128 * (a / 128) + (⟨a % 128, Nat.mod_lt _ (by norm_num)⟩ : Fin 128).val, by show 128 * (a / 128) + a % 128 < 32000; omega⟩ : Fin 32000) = ⟨a, hlt⟩ := Fin.ext e
  rw [this]

end

/-! ## The result arrays -/

def tLast : Fin cfg0.N := ⟨24, lt_of_lt_of_eq (by decide) (show cfg0.N = 25 from N_0).symm⟩

theorem arr4 : (dats m 0 c).arrAt 4 cfg0.N = entOf (carry m c 24 tLast.isLt) := by
  refine (dats m 0 c).arrAt_eq_of_after_last 4 tLast (by decide +kernel) _ fun j => ?_
  blk_simp
  rw [after_4]
  try rfl
theorem arr5 : (dats m 0 c).arrAt 5 cfg0.N = varOf (carry m c 24 tLast.isLt) := by
  refine (dats m 0 c).arrAt_eq_of_after_last 5 tLast (by decide +kernel) _ fun j => ?_
  blk_simp
  rw [after_5]
  try rfl
theorem arr6 : (dats m 0 c).arrAt 6 cfg0.N = lpOf (carry m c 24 tLast.isLt) := by
  refine (dats m 0 c).arrAt_eq_of_after_last 6 tLast (by decide +kernel) _ fun j => ?_
  blk_simp
  rw [after_6]
  try rfl
theorem arr7 : (dats m 0 c).arrAt 7 cfg0.N = cd0 m c := by
  refine (dats m 0 c).arrAt_eq_of_after_last 7 tLast (by decide +kernel) _ fun j => ?_
  blk_simp
  rw [after_7]
theorem arr8 : (dats m 0 c).arrAt 8 cfg0.N = row0 m c := by
  refine (dats m 0 c).arrAt_eq_of_after_last 8 tLast (by decide +kernel) _ fun j => ?_
  blk_simp
  rw [after_8]

end Cert.KernelIdeal.Own

end
-- ==== Proof.RefValue.lean ====
/- The reference's results, element by element. -/
module

public import proofs.«01_k».proof.Proof.Scale
public import proofs.«01_k».proof.Proof.Moments
public import proofs.«01_k».proof.Proof.Gen.ReferenceIdeal.Run
public import proofs.«01_k».proof.Proof.Gen.ReferenceIdeal.Read
public import Idealize.ShloMosaic.Lib.Pointwise

@[expose] public section

noncomputable section

namespace Cert.ReferenceIdeal.Own

open Cert.ReferenceIdeal Cert.ReferenceIdeal.Gen Cert.Maths Idealize.ShloMosaic Idealize.ShloMosaic.TcCoe Idealize.SL.Sem

theorem log2e_eq : (Named.named κ "log2e" 0x3FB8AA3B#32 : Ideal .f32) = (((Real.log 2)⁻¹ : ℝ) : EReal) :=
  IdealRules.named_const.ideal_named_scalar _ _ _ _ rfl

/-- The scaled row maximum. -/
def rowMax (x : Vec Ideal S128x4096 .bf16) (r : Fin 128) : EReal :=
  (Finset.univ.fold max (Ideal.ofBits .f32 0xFF800000#32) fun k : Fin 4096 => FloatOps.absf (F := Ideal) (φ := .f32) (x (ix2 r k)))
    * Ideal.ofBits .f32 0x3B124925#32

theorem pay1_apply (x : Vec Ideal S128x4096 .bf16) (j : S128x4096.Idx) : k0_pay1 (F := Ideal) x j = x j := by
  unfold k0_pay1
  simp only [shapeCast_self]
  rfl

theorem pay2_apply (x : Vec Ideal S128x4096 .bf16) (r : Fin 128) (l : Fin 1) :
    k0_pay2 (F := Ideal) x (ix2 r l) = refExp (rowMax x r) := by
  have h := pay1_apply x
  unfold k0_pay2
  generalize k0_pay1 x = y at *
  pointwise []
  simp only [h]
  rw [refExp_eq, log2e_eq]; unfold rowMax; rfl

/-- The code of an element: scaled, clipped to the format's range. -/
theorem pay3_apply (x : Vec Ideal S128x4096 .bf16) (r : Fin 128) (k : Fin 4096) :
    k0_pay3 (F := Ideal) x (ix2 r k) = min (Ideal.ofBits .f32 0x43E00000#32)
      (max (Ideal.ofBits .f32 0xC3E00000#32) (x (ix2 r k) * Ideal.exp2 (0 - refExp (rowMax x r)))) := by
  have h := pay2_apply x
  have h1 := pay1_apply x
  unfold k0_pay3
  generalize k0_pay2 x = y at *
  generalize k0_pay1 x = z at *
  pointwise []
  rw [h, h1, fexp2]

theorem pay4_apply (x : Vec Ideal S128x4096 .bf16) (r : Fin 128) (l : Fin 1) :
    k0_pay4 (F := Ideal) x (ix2 r l) = Ideal.exp2 (refExp (rowMax x r)) := by
  have h := pay2_apply x r l
  unfold k0_pay4
  generalize k0_pay2 x = y at *
  pointwise []
  rw [h, fexp2]

theorem pay5_apply (x : Vec Ideal S128x4096 .bf16) (w : Vec Ideal S32000x4096 .fp8e4m3) (r : Fin 128) (c : Fin 32000) :
    k0_pay5 (F := Ideal) x w (ix2 r c) = ∑ k : Fin 4096, k0_pay3 (F := Ideal) x (ix2 r k) * w (ix2 c k) := by
  unfold k0_pay5
  generalize k0_pay3 x = y at *
  pointwise []

end Cert.ReferenceIdeal.Own

end
-- ==== Proof.KernelCodes.lean ====
/- The codes and scales the kernel stores, element by element: they are the reference's. -/
module

public import proofs.«01_k».proof.Proof.RefValue
public import proofs.«01_k».proof.Proof.KernelIdealStep
public import Idealize.ShloMosaic.Lib.Pointwise

@[expose] public section

set_option maxRecDepth 8192

noncomputable section

namespace Cert.KernelIdeal.Own

open Cert.KernelIdeal Cert.KernelIdeal.Gen Cert.Maths Idealize.ShloMosaic Idealize.ShloMosaic.TcCoe Idealize.SL.Sem
open Cert.ReferenceIdeal.Own (rowMax)

theorem log2e_eq : (Named.named κ "log2e" 0x3FB8AA3B#32 : Ideal .f32) = (((Real.log 2)⁻¹ : ℝ) : EReal) :=
  IdealRules.named_const.ideal_named_scalar _ _ _ _ rfl

theorem pay8_apply (x : Vec Ideal S128x4096 .bf16) (j : S128x4096.Idx) : k0_pay8 (F := Ideal) x j = x j := by
  unfold k0_pay8
  simp only [shapeCast_self]
  rfl

theorem pay9_apply (x : Vec Ideal S128x4096 .bf16) (r l : Fin 128) : k0_pay9 (F := Ideal) x (ix2 r l) = rowMax x r := by
  have h := pay8_apply x
  unfold k0_pay9
  generalize k0_pay8 x = y at *
  pointwise []
  simp only [h]
  unfold rowMax; rfl

/-- One step of the search on every element. -/
def srchV (v : FVec Ideal S128x128 .f32) (b : IVec S128x128 32) (s : BitVec 32) : IVec S128x128 32 :=
  select (cmpf .oge v (bitcastToFloat .f32 (shli (addi b (broadcast S128x128 s)) (broadcast S128x128 23#32))))
    (addi b (broadcast S128x128 s)) b

theorem srchV_apply (v : FVec Ideal S128x128 .f32) (b : IVec S128x128 32) (s : BitVec 32) (j : S128x128.Idx) :
    srchV v b s j = srch (v j) (b j) s := rfl

theorem pay10_eq (x : Vec Ideal S128x4096 .bf16) :
    k0_pay10 (F := Ideal) x = srchV (k0_pay9 x) (srchV (k0_pay9 x) (srchV (k0_pay9 x) (broadcast S128x128 0#32) 128#32) 64#32) 32#32 := by
  unfold k0_pay10
  generalize k0_pay9 x = y
  unfold srchV
  exact rfl

theorem pay12_eq (y : FVec Ideal S128x128 .f32) (b : IVec S128x128 32) :
    k0_pay12 (F := Ideal) y b (cmpf .oge y (bitcastToFloat .f32 (shli (addi b (broadcast S128x128 16#32)) (broadcast S128x128 23#32))))
      = srchV y (srchV y (srchV y (srchV y (srchV y b 16#32) 8#32) 4#32) 2#32) 1#32 := by
  unfold k0_pay12 srchV
  exact rfl

/-- The exponent field the kernel's search finds. -/
theorem field_apply (x : Vec Ideal S128x4096 .bf16) (j : S128x128.Idx) :
    k0_pay12 (F := Ideal) (k0_pay9 x) (k0_pay10 x) (k0_pay11 x) j = field (k0_pay9 x j) := by
  have h := pay12_eq (k0_pay9 x) (k0_pay10 x)
  have h10 := pay10_eq x
  unfold k0_pay11
  generalize k0_pay10 (F := Ideal) x = b at *
  generalize k0_pay9 x = y at *
  refine (congrFun h j).trans ?_
  rw [h10]
  simp only [srchV_apply]
  unfold field
  rfl

theorem exp_bits (y : FVec Ideal S128x128 .f32) (b : IVec S128x128 32) (c : IVec S128x128 1) (j : S128x128.Idx) (n : BitVec 32)
    (h : k0_pay12 (F := Ideal) y b c j = n) :
    k0_pay14 (k0_pay12 (F := Ideal) y b c) (k0_pay13 y b c) 126#32 j
      = Scalar.select (IntOp.ori (Ideal.cmp .oeq (y j) (Ideal.ofBits .f32 0#32)) (IntOp.cmpi .eq n 0#32)) 0#32 (IntOp.subi n 126#32) := by
  unfold k0_pay13 k0_pay14
  generalize k0_pay12 (F := Ideal) y b c = p at *
  rw [← h]
  exact rfl

theorem kerExp_apply (x : Vec Ideal S128x4096 .bf16) (j : S128x128.Idx) :
    k0_pay14 (k0_pay12 (F := Ideal) (k0_pay9 x) (k0_pay10 x) (k0_pay11 x)) (k0_pay13 (k0_pay9 x) (k0_pay10 x) (k0_pay11 x)) 126#32 j
      = kerExp (k0_pay9 x j) := by
  rw [exp_bits _ _ _ j _ (field_apply x j), Ideal.ofBits_zero_f32]
  rfl

theorem pay15_apply (x : Vec Ideal S128x4096 .bf16) (j : S128x128.Idx) :
    k0_pay15 (F := Ideal) (k0_pay12 (F := Ideal) (k0_pay9 x) (k0_pay10 x) (k0_pay11 x)) (k0_pay13 (k0_pay9 x) (k0_pay10 x) (k0_pay11 x)) 126#32 j
      = kerScale (k0_pay9 x j) := by
  unfold kerScale
  rw [← kerExp_apply]
  unfold k0_pay15
  rfl

theorem x2Of_apply (x : Vec Ideal S128x4096 .bf16) (r l : Fin 128) :
    x2Of (F := Ideal) x (ix2 r l) = kerScale (rowMax x r) * (((Real.log 2)⁻¹ : ℝ) : EReal) := by
  have h := pay15_apply x (ix2 r l)
  unfold x2Of k0_pay17
  rw [← pay9_apply x r l, ← h, ← log2e_eq, shapeCast_self]
  rfl

theorem rowOf_apply (x : Vec Ideal S128x4096 .bf16) (r : Fin 128) (l : Fin 1) :
    rowOf (F := Ideal) x (ix2 l r) = kerScale (rowMax x r) := by
  have h := pay15_apply x
  have h9 := pay9_apply x r
  unfold rowOf k0_pay16
  generalize k0_pay15 (F := Ideal) _ _ _ = y at *
  pointwise []
  rw [h, h9]

theorem cdOf_apply (x : Vec Ideal S128x4096 .bf16) (r : Fin 128) (k : Fin 4096) :
    cdOf (F := Ideal) x (ix2 r k) = min (Ideal.ofBits .f32 0x43E00000#32)
      (max (Ideal.ofBits .f32 0xC3E00000#32) (x (ix2 r k) * kerInv (rowMax x r))) := by
  have h := kerExp_apply x
  have h8 := pay8_apply x
  have h9 := pay9_apply x r
  unfold cdOf k0_pay18
  generalize k0_pay14 _ _ _ = y at *
  generalize k0_pay8 x = z at *
  pointwise []
  rw [h, h8, h9]
  unfold kerInv powBits
  rfl

end Cert.KernelIdeal.Own

end
-- ==== Proof.KernelRunVals.lean ====
/- The kernel's run, its results element by element. -/
module

public import proofs.«01_k».proof.Proof.KernelCarry
public import proofs.«01_k».proof.Proof.KernelCodes

@[expose] public section

set_option maxRecDepth 16384

noncomputable section

namespace Cert.KernelIdeal.Own

open Cert.KernelIdeal Cert.KernelIdeal.Gen Cert.Maths Idealize.ShloMosaic Idealize.ShloMosaic.TcCoe Idealize.SL.Sem
open Cert.ReferenceIdeal.Own (rowMax)

variable (m : (ℓ : Loc nD τ sig) → Buf (Elt Ideal) ℓ) (ρ : Dev nD → PrngReg)

theorem scale_eq (c : Dev nD) (r l : Fin 128) : x20 m c (ix2 r l) = kerScale (rowMax (XV m c) r) * (((Real.log 2)⁻¹ : ℝ) : EReal) := by
  unfold x20
  rw [iblk0, x2Of_apply]

/-- A row's logits as the kernel forms them. -/
abbrev fL (c : Dev nD) (r : Fin 128) : Fin 32000 → EReal := fK m c (fun r => kerScale (rowMax (XV m c) r)) r

theorem run_vals :
    θ_run defs (onTc (τ := τ) (main (F := Ideal))) ⟨m, fun _ => 0, ρ⟩ fun r => ∀ c : Dev nD,
      r.2.mem ((c.tc : Thread nD τ).loc main_v3_0) = entOf (carry m c 24 tLast.isLt)
      ∧ r.2.mem ((c.tc : Thread nD τ).loc main_v3_1) = varOf (carry m c 24 tLast.isLt)
      ∧ r.2.mem ((c.tc : Thread nD τ).loc main_v3_2) = lpOf (carry m c 24 tLast.isLt)
      ∧ r.2.mem ((c.tc : Thread nD τ).loc main_v3_3) = cd0 m c
      ∧ r.2.mem ((c.tc : Thread nD τ).loc main_v3_4) = row0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (unchanged m ρ))
  obtain ⟨h, hu⟩ := h
  exact ⟨((h c).1 4).trans (arr4 m c), ((h c).1 5).trans (arr5 m c), ((h c).1 6).trans (arr6 m c), ((h c).1 7).trans (arr7 m c),
    ((h c).1 8).trans (arr8 m c), (hu c).1, (hu c).2.1, (hu c).2.2.1, (hu c).2.2.2⟩

theorem codes_val (c : Dev nD) (r : Fin 128) (k : Fin 4096) : cd0 m c (ix2 r k) = min (Ideal.ofBits .f32 0x43E00000#32)
    (max (Ideal.ofBits .f32 0xC3E00000#32) (XV m c (ix2 r k) * kerInv (rowMax (XV m c) r))) := by
  unfold cd0
  rw [iblk0, cdOf_apply]

theorem row_val (c : Dev nD) (b : Fin 1) (r : Fin 128) : row0 m c (ix2 b r) = kerScale (rowMax (XV m c) r) := by
  unfold row0
  rw [iblk0, rowOf_apply]

end Cert.KernelIdeal.Own

end
-- ==== Proof.RefTail.lean ====
/- The reference's results from the product, the row scales, the weight scales and the targets, element by element. -/
module

public import proofs.«01_k».proof.Proof.Scale
public import proofs.«01_k».proof.Proof.Moments
public import proofs.«01_k».proof.Proof.Gen.ReferenceIdeal.Read
public import Idealize.ShloMosaic.Lib.Pointwise
public import Idealize.ShloMosaic.Lib.ReduceAll

@[expose] public section

set_option maxRecDepth 8192

noncomputable section

namespace Cert.ReferenceIdeal.Own

open Cert.ReferenceIdeal Cert.ReferenceIdeal.Gen Cert.ReferenceIdeal.Read Cert.Maths Idealize.ShloMosaic Idealize.ShloMosaic.TcCoe Idealize.SL.Sem

variable (x2 : (⟨S32000, .f32⟩ : BufTy).Contents (Elt Ideal)) (x3 : (⟨S1x128x7, .i32⟩ : BufTy).Contents (Elt Ideal))
  (r1 : (⟨S128x1, .f32⟩ : BufTy).Contents (Elt Ideal)) (r2 : (⟨S128x32000, .f32⟩ : BufTy).Contents (Elt Ideal))

/-- The logits of a row. -/
def lg (r : Fin 128) (c : Fin 32000) : EReal := r2 (ix2 r c) * r1 (ix2 r 0) * x2 (ix1 c)

theorem i2 (r : Fin 128) (c : Fin 32000) : idx_main_v2 (ix2 r c) = ix2 r 0 := by
  funext a; match a with | ⟨0, _⟩ => rfl | ⟨1, _⟩ => rfl
theorem i4 (c : Fin 32000) (b : Fin 1) : idx_main_v4 (ix2 b c) = ix1 c := by
  funext a; match a with | ⟨0, _⟩ => rfl
theorem i5 (r : Fin 128) (c : Fin 32000) : idx_main_v5 (ix2 r c) = ix2 0 c := by
  funext a; match a with | ⟨0, _⟩ => rfl | ⟨1, _⟩ => rfl
theorem i8 (r : Fin 128) (b : Fin 1) : idx_main_v8 (ix2 r b) = ix1 r := by
  funext a; match a with | ⟨0, _⟩ => rfl
theorem i9 (r : Fin 128) (c : Fin 32000) : idx_main_v9 (ix2 r c) = ix2 r 0 := by
  funext a; match a with | ⟨0, _⟩ => rfl | ⟨1, _⟩ => rfl
theorem i12 (r : Fin 128) (c : Fin 32000) : idx_main_v12 (ix1 r) c = ix2 r c := by
  funext a; match a with | ⟨0, _⟩ => rfl | ⟨1, _⟩ => rfl
theorem i13 (r : Fin 128) (b : Fin 1) : idx_main_v13 (ix2 r b) = ix1 r := by
  funext a; match a with | ⟨0, _⟩ => rfl
theorem i15 (r : Fin 128) (c : Fin 32000) : idx_main_v15 (ix2 r c) = ix2 r 0 := by
  funext a; match a with | ⟨0, _⟩ => rfl | ⟨1, _⟩ => rfl
theorem i17 (r : Fin 128) (c : Fin 32000) : idx_main_v17 (ix2 r c) = ix2 r 0 := by
  funext a; match a with | ⟨0, _⟩ => rfl | ⟨1, _⟩ => rfl
theorem i20 (r : Fin 128) (c : Fin 32000) : idx_main_v20 (ix1 r) c = ix2 r c := by
  funext a; match a with | ⟨0, _⟩ => rfl | ⟨1, _⟩ => rfl
theorem i22 (r : Fin 128) (b : Fin 1) : idx_main_v22 (ix2 r b) = ix1 r := by
  funext a; match a with | ⟨0, _⟩ => rfl
theorem i23 (r : Fin 128) (c : Fin 32000) : idx_main_v23 (ix2 r c) = ix2 r 0 := by
  funext a; match a with | ⟨0, _⟩ => rfl | ⟨1, _⟩ => rfl
theorem i27 (r : Fin 128) (c : Fin 32000) : idx_main_v27 (ix1 r) c = ix2 r c := by
  funext a; match a with | ⟨0, _⟩ => rfl | ⟨1, _⟩ => rfl
theorem i31 (r : Fin 128) (c : Fin 7) : idx_main_v31 (ix2 r c) = ix2 r 0 := by
  funext a; match a with | ⟨0, _⟩ => rfl | ⟨1, _⟩ => rfl
theorem i33 (r : Fin 128) (b : Fin 1) : idx_main_v33 (ix2 b r) = ix1 r := by
  funext a; match a with | ⟨0, _⟩ => rfl
theorem i34 (r : Fin 128) (b : Fin 1) : idx_main_v34 (ix2 b r) = ix1 r := by
  funext a; match a with | ⟨0, _⟩ => rfl
theorem i35 (r : Fin 128) (b : Fin 1) : idx_main_v35 (ix2 b r) = ix2 r b := by
  funext a; match a with | ⟨0, _⟩ => rfl | ⟨1, _⟩ => rfl

theorem ofBits_bot : Ideal.ofBits .f32 0xFF800000#32 = (⊥ : EReal) := by
  show Ideal.ieee 8 23 0xFF800000#32 = _
  have h1 : ((0xFF800000#32 : BitVec 32).extractLsb' 31 1 == 1#1) = true := by decide
  have h2 : ((0xFF800000#32 : BitVec 32).extractLsb' 23 8).toNat = 255 := by decide
  have h3 : ((0xFF800000#32 : BitVec 32).extractLsb' 0 23).toNat = 0 := by decide
  unfold Ideal.ieee
  simp only [Nat.reduceAdd, Nat.reducePow, Nat.reduceSub, h1, h2, h3, if_true]

theorem v6_at (r : Fin 128) (c : Fin 32000) : val_main_v6 (F := Ideal) x2 r1 r2 (ix2 r c) = lg x2 r1 r2 r c := by
  rw [val_main_v6_apply, val_main_v3_apply, val_main_v2_apply, val_main_v5_apply, val_main_v4_apply, i2, i5, i4]
  rfl

theorem v7_at (r : Fin 128) : val_main_v7 (F := Ideal) x2 r1 r2 (ix1 r) = top (lg x2 r1 r2 r) := by
  have h := v6_at x2 r1 r2 r
  unfold val_main_v7
  generalize val_main_v6 (F := Ideal) x2 r1 r2 = y at *
  unfold val_main_cst
  pointwise []
  simp only [h]
  unfold top
  rw [ofBits_bot]
  exact rfl

theorem v8_at (r : Fin 128) (b : Fin 1) : val_main_v8 (F := Ideal) x2 r1 r2 (ix2 r b) = top (lg x2 r1 r2 r) := by
  rw [val_main_v8_apply, i8, v7_at]

theorem v10_at (r : Fin 128) (c : Fin 32000) : val_main_v10 (F := Ideal) x2 r1 r2 (ix2 r c) = lg x2 r1 r2 r c - top (lg x2 r1 r2 r) := by
  rw [val_main_v10_apply, v6_at, val_main_v9_apply, i9, v8_at]; rfl

theorem v11_at (r : Fin 128) (c : Fin 32000) : val_main_v11 (F := Ideal) x2 r1 r2 (ix2 r c) = Ideal.exp (lg x2 r1 r2 r c - top (lg x2 r1 r2 r)) := by
  rw [val_main_v11_apply, v10_at]; rfl

theorem v12_at (r : Fin 128) : val_main_v12 (F := Ideal) x2 r1 r2 (ix1 r) = (Ek 0 (lg x2 r1 r2 r) : EReal) := by
  rw [val_main_v12_apply, val_main_cst_0_apply, ← sum_exp]
  have : (FloatOps.ofBits .f32 0x00000000#32 : Ideal .f32) = (0 : EReal) := Ideal.ofBits_zero_f32
  rw [this, zero_add]
  exact Finset.sum_congr rfl fun c _ => by rw [i12, v11_at]

theorem v13_at (r : Fin 128) (b : Fin 1) : val_main_v13 (F := Ideal) x2 r1 r2 (ix2 r b) = (Ek 0 (lg x2 r1 r2 r) : EReal) := by
  rw [val_main_v13_apply, i13, v12_at]

theorem v14_at (r : Fin 128) (b : Fin 1) : val_main_v14 (F := Ideal) x2 r1 r2 (ix2 r b) = Ideal.log (Ek 0 (lg x2 r1 r2 r) : EReal) := by
  rw [val_main_v14_apply, v13_at]; rfl

theorem v16_at (r : Fin 128) (c : Fin 32000) : val_main_v16 (F := Ideal) x2 r1 r2 (ix2 r c) = P (lg x2 r1 r2 r) c := by
  rw [val_main_v16_apply, v11_at, val_main_v15_apply, i15, v13_at]; rfl

theorem v18_at (r : Fin 128) (c : Fin 32000) : val_main_v18 (F := Ideal) x2 r1 r2 (ix2 r c) = LP (lg x2 r1 r2 r) c := by
  rw [val_main_v18_apply, v10_at, val_main_v17_apply, i17, v14_at]; rfl

theorem v19_at (r : Fin 128) (c : Fin 32000) : val_main_v19 (F := Ideal) x2 r1 r2 (ix2 r c) = P (lg x2 r1 r2 r) c * LP (lg x2 r1 r2 r) c := by
  rw [val_main_v19_apply, v16_at, v18_at]; rfl

theorem v21_at (r : Fin 128) : val_main_v21 (F := Ideal) x2 r1 r2 (ix1 r) = Hr (lg x2 r1 r2 r) := by
  rw [val_main_v21_apply, val_main_v20_apply, val_main_cst_1_apply]
  have : (FloatOps.ofBits .f32 0x00000000#32 : Ideal .f32) = (0 : EReal) := Ideal.ofBits_zero_f32
  rw [this, zero_add, Finset.sum_congr rfl fun c _ => by rw [i20, v19_at]]
  rfl

theorem v24_at (r : Fin 128) (c : Fin 32000) : val_main_v24 (F := Ideal) x2 r1 r2 (ix2 r c) = LP (lg x2 r1 r2 r) c + Hr (lg x2 r1 r2 r) := by
  rw [val_main_v24_apply, v18_at, val_main_v23_apply, i23, val_main_v22_apply, i22, v21_at]; rfl

theorem v27_at (r : Fin 128) : val_main_v27 (F := Ideal) x2 r1 r2 (ix1 r) = Vr (lg x2 r1 r2 r) := by
  rw [val_main_v27_apply, val_main_cst_2_apply]
  have : (FloatOps.ofBits .f32 0x00000000#32 : Ideal .f32) = (0 : EReal) := Ideal.ofBits_zero_f32
  rw [this, zero_add, Finset.sum_congr rfl fun c _ => by rw [i27, val_main_v26_apply, v16_at, val_main_v25_apply, v24_at]]
  rfl

/-- The entropy. -/
theorem v33_at (r : Fin 128) (b : Fin 1) : val_main_v33 (F := Ideal) x2 r1 r2 (ix2 b r) = Hr (lg x2 r1 r2 r) := by
  rw [val_main_v33_apply, i33, v21_at]

/-- The varentropy. -/
theorem v34_at (r : Fin 128) (b : Fin 1) : val_main_v34 (F := Ideal) x2 r1 r2 (ix2 b r) = Vr (lg x2 r1 r2 r) := by
  rw [val_main_v34_apply, i34, v27_at]

theorem v35_at (r : Fin 128) (b : Fin 1) : val_main_v35 (F := Ideal) r1 (ix2 b r) = r1 (ix2 r b) := by
  rw [val_main_v35_apply, i35]

theorem v31_at (r : Fin 128) (l : Fin 7) : val_main_v31 (F := Ideal) x2 r1 r2 (ix2 r l) = top (lg x2 r1 r2 r) + Ideal.log (Ek 0 (lg x2 r1 r2 r) : EReal) := by
  rw [val_main_v31_apply, i31, val_main_v30_apply, v8_at, v14_at]; rfl

end Cert.ReferenceIdeal.Own

end
-- ==== Proof.RefGather.lean ====
/- The reference's target log-probabilities: the gathered logit less the logarithm of the sum of exponentials. -/
module

public import proofs.«01_k».proof.Proof.RefTail

@[expose] public section

set_option maxRecDepth 8192

noncomputable section

namespace Cert.ReferenceIdeal.Own

open Cert.ReferenceIdeal Cert.ReferenceIdeal.Gen Cert.ReferenceIdeal.Read Cert.Maths Idealize.ShloMosaic Idealize.ShloMosaic.TcCoe Idealize.SL.Sem

/-- The gather along a row, read at an index. -/
theorem gather_at (x : S128x32000.Idx → EReal) (idx : IVec S128x7x1 32) (r : Fin 128) (l : Fin 7) (c : Fin 32000)
    (h : min (idx (ix3 r l 0)).toInt.toNat 31999 = c.val) :
    Host.gather gather_S128x32000_S128x7x1_S128x7_n_1_0_0_1_2_11 x idx (ix2 r l) = x (ix2 r c) := by
  unfold Host.gather
  congr 1
  funext a
  refine Fin.ext ?_
  show gather_S128x32000_S128x7x1_S128x7_n_1_0_0_1_2_11.start (ix2 r l) idx a + gather_S128x32000_S128x7x1_S128x7_n_1_0_0_1_2_11.batchCoord (ix2 r l) a
      + gather_S128x32000_S128x7x1_S128x7_n_1_0_0_1_2_11.offCoord (ix2 r l) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S128x32000_S128x7x1_S128x7_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S128x32000_S128x7x1_S128x7_n_1_0_0_1_2_11.startIndexMap from List.mem_singleton.mpr rfl)]
    have hsi : gather_S128x32000_S128x7x1_S128x7_n_1_0_0_1_2_11.siIdx (ix2 r l) ⟨List.idxOf (1 : Fin 2) gather_S128x32000_S128x7x1_S128x7_n_1_0_0_1_2_11.startIndexMap,
        List.idxOf_lt_length_iff.2 (List.mem_singleton.mpr rfl)⟩ = ix3 r l 0 := by
      funext b; refine Fin.ext ?_
      match b with
      | ⟨0, _⟩ => rfl
      | ⟨1, _⟩ => rfl
      | ⟨2, _⟩ => rfl
    rw [hsi]
    exact h

theorem small_toInt (a : BitVec 32) (h : a.toNat < 32000) : a.toInt = (a.toNat : ℤ) := by
  rw [BitVec.toInt_eq_toNat_of_lt (by omega)]

theorem not_neg (a : BitVec 32) (h : a.toNat < 32000) : IntOp.cmpi .slt a 0#32 = 0#1 := by
  show BitVec.ofBool (a.slt 0#32) = _
  have : a.slt 0#32 = false := by
    rw [BitVec.slt_eq_decide, decide_eq_false_iff_not, small_toInt a h]
    simp
  rw [this]; rfl

theorem ge_zero (a : BitVec 32) (h : a.toNat < 32000) : IntOp.cmpi .sge a 0#32 = 1#1 := by
  show BitVec.ofBool ((0#32).sle a) = _
  have : (0#32).sle a = true := by
    rw [BitVec.sle_eq_decide, decide_eq_true_iff, small_toInt a h]
    simp
  rw [this]; rfl

theorem le_last (a : BitVec 32) (h : a.toNat < 32000) : IntOp.cmpi .sle a 31999#32 = 1#1 := by
  show BitVec.ofBool (a.sle 31999#32) = _
  have : a.sle 31999#32 = true := by
    rw [BitVec.sle_eq_decide, decide_eq_true_iff, small_toInt a h]
    have : (31999#32 : BitVec 32).toInt = 31999 := by decide
    rw [this]; omega
  rw [this]; rfl

section
variable (x2 : (⟨S32000, .f32⟩ : BufTy).Contents (Elt Ideal)) (x3 : (⟨S1x128x7, .i32⟩ : BufTy).Contents (Elt Ideal))
  (r1 : (⟨S128x1, .f32⟩ : BufTy).Contents (Elt Ideal)) (r2 : (⟨S128x32000, .f32⟩ : BufTy).Contents (Elt Ideal))
  (hx : ∀ i, (x3 i : BitVec 32).toNat < 32000)
include hx

theorem v4_at (i : S128x7.Idx) : val_main_call0_v4 (F := Ideal) x3 i = x3 (idx_main_v28 i) := by
  rw [val_main_call0_v4_apply, val_main_call0_v1_apply, val_main_call0_v0_apply, val_main_call0_c_apply, val_main_v28_apply, not_neg _ (hx _)]
  rfl

theorem v5_at (i : S128x7x1.Idx) : val_main_call0_v5 (F := Ideal) x3 i = x3 (idx_main_v28 (idx_main_call0_v5 i)) := by
  rw [val_main_call0_v5_apply, v4_at x3 hx]

theorem call_v11_at (i : S128x7x1.Idx) : val_main_call0_v11 (F := Ideal) x3 i = 1#1 := by
  rw [val_main_call0_v11_apply, val_main_call0_v7_apply, val_main_call0_v10_apply, val_main_call0_v6_apply, val_main_call0_c_2_apply,
    val_main_call0_v9_apply, val_main_call0_v8_apply, val_main_call0_c_1_apply, v5_at x3 hx, ge_zero _ (hx _), le_last _ (hx _)]
  rfl

theorem call_v12_at (i : S128x7.Idx) : val_main_call0_v12 (F := Ideal) x3 i = 1#1 := by
  unfold val_main_call0_v12
  exact Host.reduce_andi_one _ _ _ _ _ rfl (call_v11_at x3 hx)

theorem v29_at (r : Fin 128) (l : Fin 7) : val_main_v29 (F := Ideal) x2 x3 r1 r2 (ix2 r l) = lg x2 r1 r2 r ⟨(x3 (ix3 0 r l) : BitVec 32).toNat, hx _⟩ := by
  rw [val_main_v29_apply, call_v12_at x3 hx]
  show val_main_call0_v13 (F := Ideal) x2 x3 r1 r2 (ix2 r l) = _
  unfold val_main_call0_v13
  rw [← v6_at]
  refine gather_at _ _ r l ⟨(x3 (ix3 0 r l) : BitVec 32).toNat, hx _⟩ ?_
  rw [v5_at x3 hx]
  have hi : idx_main_v28 (idx_main_call0_v5 (ix3 r l 0)) = ix3 0 r l := by
    have hr := r.isLt
    have hl := l.isLt
    funext a
    refine Fin.ext ?_
    match a with
    | ⟨0, _⟩ => rfl
    | ⟨1, _⟩ => simp [idx_main_v28, idx_main_call0_v5]; try omega
    | ⟨2, _⟩ => simp [idx_main_v28, idx_main_call0_v5]; try omega
  rw [hi, small_toInt _ (hx _)]
  have := hx (ix3 0 r l)
  simp only [Int.toNat_natCast]
  omega

theorem v32_at (r : Fin 128) (l : Fin 7) : val_main_v32 (F := Ideal) x2 x3 r1 r2 (ix2 r l)
    = lg x2 r1 r2 r ⟨(x3 (ix3 0 r l) : BitVec 32).toNat, hx _⟩ - (top (lg x2 r1 r2 r) + Ideal.log (Ek 0 (lg x2 r1 r2 r) : EReal)) := by
  rw [val_main_v32_apply, v29_at x2 x3 r1 r2 hx, v31_at]; rfl

end

end Cert.ReferenceIdeal.Own

end
-- ==== Proof.RefArr.lean ====
/- The reference's five result arrays from its arguments. -/
module

public import proofs.«01_k».proof.Proof.RefValue
public import proofs.«01_k».proof.Proof.RefGather
public import Idealize.ShloMosaic.Lib.Pipeline.ValueKit
public import Idealize.ShloMosaic.Lib.Claim

@[expose] public section

set_option maxRecDepth 16384

noncomputable section

namespace Cert.ReferenceIdeal.Own

open Cert.ReferenceIdeal Cert.ReferenceIdeal.Gen Cert.ReferenceIdeal.Read Cert.Maths Idealize.ShloMosaic Idealize.ShloMosaic.TcCoe Idealize.SL.Sem

variable (m : (ℓ : Loc nD τ sig) → Buf (Elt Ideal) ℓ) (ρ : Dev nD → PrngReg) (c : Dev nD)

/-- The activations as a matrix. -/
def XV : Vec Ideal S128x4096 .bf16 := fun i => m ((c : Thread nD τ).loc main_arg0) (ix3 0 (i 0) (i 1))
/-- The weights. -/
def WV : Vec Ideal S32000x4096 .fp8e4m3 := m ((c : Thread nD τ).loc main_arg1)

def t00 : Fin cfg0.N := ⟨0, by decide⟩

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

theorem iblk0' (t : Fin cfg0.N) : iblk m c 0 t = V m c main_v0 := by
  blk_ext! [iblk, idx t]

theorem iblk0 (t : Fin cfg0.N) : iblk m c 0 t = XV m c := by
  rw [iblk0']
  funext i
  obtain ⟨r, k, rfl⟩ : ∃ (r : Fin 128) (k : Fin 4096), i = ix2 r k := ⟨i 0, i 1, eq_ix2 i⟩
  unfold XV
  show StableHlo.after hostOps0 (fun b => m (c, b)) (Proc.devRef .tc main_v0) (ix2 r k) = _
  entry_read
  pointwise []

theorem iblk1 (t : Fin cfg0.N) : iblk m c 1 t = WV m c := by
  unfold WV
  blk_ext! [iblk, V, idx t]

theorem reg0 : Value.reg_main_v1_0 m c = k0_pay3 (F := Ideal) (XV m c) := by
  unfold Value.reg_main_v1_0
  refine (dats m 0 c).arrAt_eq_of_after_last 2 t00 (by decide +kernel) _ fun j => ?_
  blk_simp
  rw [after0_2]
  frame_out
  rw [iblk0]
  try rfl

theorem reg1 : Value.reg_main_v1_1 m c = k0_pay4 (F := Ideal) (XV m c) := by
  unfold Value.reg_main_v1_1
  refine (dats m 0 c).arrAt_eq_of_after_last 3 t00 (by decide +kernel) _ fun j => ?_
  blk_simp
  rw [after0_3]
  frame_out
  rw [iblk0]
  try rfl

theorem reg2 : Value.reg_main_v1_2 m c = k0_pay5 (F := Ideal) (XV m c) (WV m c) := by
  unfold Value.reg_main_v1_2
  refine (dats m 0 c).arrAt_eq_of_after_last 4 t00 (by decide +kernel) _ fun j => ?_
  blk_simp
  rw [after0_4]
  frame_out
  rw [iblk0, iblk1]
  try rfl

/-! ## The results -/

/-- A row's logits as the reference forms them. -/
def fR (r : Fin 128) (j : Fin 32000) : EReal :=
  (∑ k : Fin 4096, k0_pay3 (F := Ideal) (XV m c) (ix2 r k) * WV m c (ix2 j k)) * Ideal.exp2 (refExp (rowMax (XV m c) r)) * m ((c : Thread nD τ).loc main_arg2) (ix1 j)

theorem lg_eq (r : Fin 128) : lg (m ((c : Thread nD τ).loc main_arg2)) (k0_pay4 (F := Ideal) (XV m c)) (k0_pay5 (F := Ideal) (XV m c) (WV m c)) r = fR m c r := by
  funext j
  unfold lg fR
  rw [pay4_apply, pay5_apply]

/-- The reference's run, its results element by element. -/
theorem run_vals (hx : ∀ c i, (m (((c : Dev nD) : Thread nD τ).loc main_arg3) i : BitVec 32).toNat < 32000) :
    θ_run defs (onTc (τ := τ) (main (F := Ideal))) ⟨m, fun _ => 0, ρ⟩ fun r => ∀ c : Dev nD,
      (∀ (b : Fin 1) (q : Fin 128), r.2.mem ((c.tc : Thread nD τ).loc main_v33) (ix2 b q) = Hr (fR m c q))
      ∧ (∀ (b : Fin 1) (q : Fin 128), r.2.mem ((c.tc : Thread nD τ).loc main_v34) (ix2 b q) = Vr (fR m c q))
      ∧ (∀ (q : Fin 128) (l : Fin 7), r.2.mem ((c.tc : Thread nD τ).loc main_v32) (ix2 q l)
          = fR m c q ⟨(m ((c : Thread nD τ).loc main_arg3) (ix3 0 q l) : BitVec 32).toNat, hx c _⟩ - (top (fR m c q) + Ideal.log (Ek 0 (fR m c q) : EReal)))
      ∧ r.2.mem ((c.tc : Thread nD τ).loc main_v1_0) = k0_pay3 (F := Ideal) (XV m c)
      ∧ (∀ (b : Fin 1) (q : Fin 128), r.2.mem ((c.tc : Thread nD τ).loc main_v35) (ix2 b q) = Ideal.exp2 (refExp (rowMax (XV m c) q)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h33, h34, h32, h10, h35, h0, h1, h2, h3⟩ := h c
  refine ⟨?_, ?_, ?_, h10.trans (reg0 m c), ?_, h0, h1, h2, h3⟩
  · intro b q
    have e := val_main_v33_eq (Value.exitV m c)
    rw [Value.exit_main_arg2, Value.exit_main_v1_1, Value.exit_main_v1_2, reg1, reg2] at e
    rw [reg1, reg2] at h33
    rw [h33.trans e, v33_at, lg_eq]
  · intro b q
    have e := val_main_v34_eq (Value.exitV m c)
    rw [Value.exit_main_arg2, Value.exit_main_v1_1, Value.exit_main_v1_2, reg1, reg2] at e
    unfold Value.res_main_v34 at h34
    rw [reg1, reg2] at h34
    rw [h34.trans e, v34_at, lg_eq]
  · intro q l
    have e := val_main_v32_eq (Value.exitV m c)
    rw [Value.exit_main_arg2, Value.exit_main_arg3, Value.exit_main_v1_1, Value.exit_main_v1_2, reg1, reg2] at e
    rw [reg1, reg2] at h32
    rw [h32.trans e, v32_at _ _ _ _ (hx c), lg_eq]
  · intro b q
    rw [reg1] at h35
    have e : transpose S1x128 [1, 0] (k0_pay4 (F := Ideal) (XV m c)) transposes_S128x1_S1x128_1_0 = val_main_v35 (F := Ideal) (k0_pay4 (F := Ideal) (XV m c)) := rfl
    rw [h35.trans e, v35_at, pay4_apply]

end Cert.ReferenceIdeal.Own

end
-- ==== Proof.PreRange.lean ====
/- What the precondition gives: a row's scaled maximum is a real number in range, and a target is a column. -/
module

public import proofs.«01_k».proof.Pre_in_range
public import proofs.«01_k».proof.Proof.RefValue

@[expose] public section

set_option maxRecDepth 8192

noncomputable section

namespace Cert.Pre_in_range.Own

open Cert.Maths Idealize.ShloMosaic Idealize.SL.Sem
open Cert.ReferenceIdeal.Own (rowMax)

theorem facts : Cert.Pre_in_range.Facts where
  bcast_S_S1x128x4096 := by decide
  bcast_S_S1x128x7 := by decide

/-- The largest finite 16-bit float. -/
def big : ℝ := 255 * (2 : ℝ) ^ (120 : ℤ)

theorem big_eq : Ideal.ofBits .bf16 0x7F7F#16 = (big : EReal) := by
  show Ideal.ieee 8 7 0x7F7F#16 = _
  have h1 : ((0x7F7F#16 : BitVec 16).extractLsb' 15 1 == 1#1) = false := by decide
  have h2 : ((0x7F7F#16 : BitVec 16).extractLsb' 7 8).toNat = 254 := by decide
  have h3 : ((0x7F7F#16 : BitVec 16).extractLsb' 0 7).toNat = 127 := by decide
  unfold Ideal.ieee big
  simp only [Nat.reduceAdd, Nat.reducePow, Nat.reduceSub, h1, h2, h3]
  norm_num

/-- The scale of the row maximum. -/
def inv448 : ℝ := 9586981 * (2 : ℝ) ^ (-32 : ℤ)

theorem inv448_eq : Ideal.ofBits .f32 0x3B124925#32 = (inv448 : EReal) := by
  show Ideal.ieee 8 23 0x3B124925#32 = _
  have h1 : ((0x3B124925#32 : BitVec 32).extractLsb' 31 1 == 1#1) = false := by decide
  have h2 : ((0x3B124925#32 : BitVec 32).extractLsb' 23 8).toNat = 118 := by decide
  have h3 : ((0x3B124925#32 : BitVec 32).extractLsb' 0 23).toNat = 1198373 := by decide
  unfold Ideal.ieee inv448
  simp only [Nat.reduceAdd, Nat.reducePow, Nat.reduceSub, h1, h2, h3]
  norm_num

theorem bot_eq : Ideal.ofBits .f32 0xFF800000#32 = (⊥ : EReal) := by
  show Ideal.ieee 8 23 0xFF800000#32 = _
  have h1 : ((0xFF800000#32 : BitVec 32).extractLsb' 31 1 == 1#1) = true := by decide
  have h2 : ((0xFF800000#32 : BitVec 32).extractLsb' 23 8).toNat = 255 := by decide
  have h3 : ((0xFF800000#32 : BitVec 32).extractLsb' 0 23).toNat = 0 := by decide
  unfold Ideal.ieee
  simp only [Nat.reduceAdd, Nat.reducePow, Nat.reduceSub, h1, h2, h3, if_true]

theorem rowMax_range (x : Vec Ideal Cert.ReferenceIdeal.S128x4096 .bf16) (r : Fin 128)
    (hx : ∀ k : Fin 4096, max (x (ix2 r k) : EReal) (-(x (ix2 r k) : EReal)) ≤ (big : EReal)) :
    ∃ v : ℝ, rowMax x r = (v : EReal) ∧ 0 ≤ v ∧ v < (2 : ℝ) ^ (126 : ℤ) := by
  have hf : (Finset.univ.fold max (Ideal.ofBits .f32 0xFF800000#32) fun k : Fin 4096 => FloatOps.absf (F := Ideal) (φ := .f32) (x (ix2 r k)))
      = Finset.univ.sup fun k : Fin 4096 => max (x (ix2 r k) : EReal) (-(x (ix2 r k) : EReal)) := by
    rw [bot_eq]; exact rfl
  have hle : (Finset.univ.sup fun k : Fin 4096 => max (x (ix2 r k) : EReal) (-(x (ix2 r k) : EReal))) ≤ (big : EReal) :=
    Finset.sup_le fun k _ => hx k
  have h0 : (0 : EReal) ≤ Finset.univ.sup fun k : Fin 4096 => max (x (ix2 r k) : EReal) (-(x (ix2 r k) : EReal)) := by
    refine le_trans ?_ (Finset.le_sup (f := fun k : Fin 4096 => max (x (ix2 r k) : EReal) (-(x (ix2 r k) : EReal))) (Finset.mem_univ 0))
    generalize (x (ix2 r 0) : EReal) = y
    rcases le_total 0 y with h | h
    · exact le_max_of_le_left h
    · exact le_max_of_le_right (by rw [EReal.le_neg]; simpa using h)
  unfold rowMax
  rw [hf, inv448_eq]
  generalize (Finset.univ.sup fun k : Fin 4096 => max (x (ix2 r k) : EReal) (-(x (ix2 r k) : EReal))) = y at *
  induction y using EReal.rec with
  | bot => exact absurd h0 (by simp)
  | top => exact absurd hle (by simp)
  | coe a =>
    rw [EReal.coe_le_coe_iff] at hle
    have ha : 0 ≤ a := by exact_mod_cast h0
    refine ⟨a * inv448, by rw [EReal.coe_mul], mul_nonneg ha (by unfold inv448; positivity), ?_⟩
    calc a * inv448 ≤ big * inv448 := mul_le_mul_of_nonneg_right hle (by unfold inv448; positivity)
      _ < (2 : ℝ) ^ (126 : ℤ) := by unfold big inv448; norm_num

section
variable [Cert.Pre_in_range.Facts] (x0 : FVec Ideal S1x128x4096 .bf16) (x1 : FVec Ideal S32000x4096 .fp8e4m3) (x2 : FVec Ideal S32000 .f32) (x3 : IVec S1x128x7 32)

theorem bound_of (h : (Cert.Pre_in_range.fn (F := Ideal) x0 x1 x2 x3).1 = fun _ => 1#1) (i : S1x128x4096.Idx) :
    max (x0 i : EReal) (-(x0 i : EReal)) ≤ (big : EReal) := by
  have hi : BitVec.ofBool (decide (max (x0 i : EReal) (-(x0 i : EReal)) ≤ Ideal.ofBits .bf16 0x7F7F#16)) = 1#1 := congrFun h i
  rw [big_eq] at hi
  by_contra hc
  rw [decide_eq_false hc] at hi
  exact absurd hi (by decide)

theorem column_of (h : (Cert.Pre_in_range.fn (F := Ideal) x0 x1 x2 x3).2 = fun _ => 1#1) (i : S1x128x7.Idx) : (x3 i).toNat < 32000 := by
  have hi : IntOp.andi (IntOp.cmpi .sge (x3 i) 0#32) (IntOp.cmpi .slt (x3 i) 32000#32) = 1#1 := congrFun h i
  generalize x3 i = a at *
  have key : ∀ p q : Bool, IntOp.andi (BitVec.ofBool p) (BitVec.ofBool q) = 1#1 → p = true ∧ q = true := by decide
  obtain ⟨h1, h2⟩ := key ((0#32).sle a) (a.slt 32000#32) hi
  rw [BitVec.sle_eq_decide, decide_eq_true_iff] at h1
  rw [BitVec.slt_eq_decide, decide_eq_true_iff] at h2
  have e0 : (0#32 : BitVec 32).toInt = 0 := by decide
  have e1 : (32000#32 : BitVec 32).toInt = 32000 := by decide
  rw [e0] at h1
  rw [e1] at h2
  rw [BitVec.toInt_eq_toNat_cond] at h1 h2
  split_ifs at h1 h2 <;> omega

end

end Cert.Pre_in_range.Own

end
-- ==== Proof.Agree.lean ====
/- The kernel's five results are the reference's, on arguments in range. -/
module

public import proofs.«01_k».proof.Proof.KernelRunVals
public import proofs.«01_k».proof.Proof.RefArr
public import proofs.«01_k».proof.Proof.PreRange
public import proofs.«01_k».proof.Defs

@[expose] public section

set_option maxRecDepth 16384

noncomputable section

namespace Cert.Proof

open Cert.Maths Idealize.ShloMosaic Idealize.ShloMosaic.TcCoe Idealize.SL.Sem
open Cert.ReferenceIdeal.Own (rowMax)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (hb : ∀ r k, max (Cert.KernelIdeal.Own.XV m c (ix2 r k) : EReal) (-(Cert.KernelIdeal.Own.XV m c (ix2 r k) : EReal)) ≤ (Cert.Pre_in_range.Own.big : EReal))

include h0 in
theorem X_eq : Cert.ReferenceIdeal.Own.XV m' c = Cert.KernelIdeal.Own.XV m c := by
  funext i
  unfold Cert.ReferenceIdeal.Own.XV Cert.KernelIdeal.Own.XV
  exact congrFun h0 _

include hb in
theorem exps (r : Fin 128) : kerScale (rowMax (Cert.KernelIdeal.Own.XV m c) r) = Ideal.exp2 (refExp (rowMax (Cert.KernelIdeal.Own.XV m c) r))
    ∧ kerInv (rowMax (Cert.KernelIdeal.Own.XV m c) r) = Ideal.exp2 (0 - refExp (rowMax (Cert.KernelIdeal.Own.XV m c) r)) := by
  obtain ⟨v, hv, hv0, hv1⟩ := Cert.Pre_in_range.Own.rowMax_range (Cert.KernelIdeal.Own.XV m c) r fun k => hb r k
  rw [hv]
  exact exps_agree v hv0 hv1

include h0 hb in
theorem codes_eq : Cert.ReferenceIdeal.Gen.k0_pay3 (F := Ideal) (Cert.ReferenceIdeal.Own.XV m' c) = Cert.KernelIdeal.Own.cd0 m c := by
  funext i
  obtain ⟨r, k, rfl⟩ : ∃ (r : Fin 128) (k : Fin 4096), i = ix2 r k := ⟨i 0, i 1, eq_ix2 i⟩
  rw [X_eq m m' c h0, Cert.ReferenceIdeal.Own.pay3_apply, Cert.KernelIdeal.Own.codes_val, (exps m c hb r).2]

include h0 h1 h2 hb in
theorem logits_eq (r : Fin 128) : Cert.ReferenceIdeal.Own.fR m' c r = Cert.KernelIdeal.Own.fL m c r := by
  funext j
  unfold Cert.KernelIdeal.Own.fL Cert.ReferenceIdeal.Own.fR Cert.KernelIdeal.Own.fK
  beta_reduce
  rw [codes_eq m m' c h0 hb, X_eq m m' c h0, (exps m c hb r).1]
  unfold Cert.ReferenceIdeal.Own.WV
  rw [h1, h2]

end

theorem algebraic : @Cert.algebraic_KernelIdeal_ReferenceIdeal_pre_in_range Cert.KernelIdeal.Gen.facts Cert.ReferenceIdeal.Gen.facts Cert.Pre_in_range.Own.facts := by
  intro m g m' g' hpre hagree
  haveI := Cert.Pre_in_range.Own.facts
  have hb : ∀ (c : Dev Cert.KernelIdeal.nD) r k, max (Cert.KernelIdeal.Own.XV m c (ix2 r k) : EReal)
      (-(Cert.KernelIdeal.Own.XV m c (ix2 r k) : EReal)) ≤ (Cert.Pre_in_range.Own.big : EReal) :=
    fun c r k => Cert.Pre_in_range.Own.bound_of _ _ _ _ (hpre c).1 (ix3 0 r k)
  have hx : ∀ (c : Dev Cert.KernelIdeal.nD) i, (m ((c.tc : Thread Cert.KernelIdeal.nD Cert.KernelIdeal.τ).loc Cert.KernelIdeal.main_arg3) i : BitVec 32).toNat < 32000 :=
    fun c i => Cert.Pre_in_range.Own.column_of _ _ _ _ (hpre c).2 i
  have hx' : ∀ (c : Dev Cert.ReferenceIdeal.nD) i, (m' ((c.tc : Thread Cert.ReferenceIdeal.nD Cert.ReferenceIdeal.τ).loc Cert.ReferenceIdeal.main_arg3) i : BitVec 32).toNat < 32000 :=
    fun c i => by
      have e := (hagree c).2.2.2
      rw [show m' ((c.tc : Thread Cert.ReferenceIdeal.nD Cert.ReferenceIdeal.τ).loc Cert.ReferenceIdeal.main_arg3) i = _ from congrFun e i]
      exact hx c i
  refine ⟨fun c => Cert.KernelIdeal.Own.entOf (Cert.KernelIdeal.Own.carry m c 24 Cert.KernelIdeal.Own.tLast.isLt),
    fun c => Cert.KernelIdeal.Own.varOf (Cert.KernelIdeal.Own.carry m c 24 Cert.KernelIdeal.Own.tLast.isLt),
    fun c => Cert.KernelIdeal.Own.lpOf (Cert.KernelIdeal.Own.carry m c 24 Cert.KernelIdeal.Own.tLast.isLt),
    fun c => Cert.KernelIdeal.Own.cd0 m c, fun c => Cert.KernelIdeal.Own.row0 m c, Cert.KernelIdeal.Own.run_vals m g, ?_⟩
  refine (θ_run _ _ _).mono (fun r h c => ?_) (Cert.ReferenceIdeal.Own.run_vals m' g' hx')
  obtain ⟨e33, e34, e32, e10, e35, ha⟩ := h c
  obtain ⟨h0, h1, h2, h3⟩ := hagree c
  have hl := logits_eq m m' c h0 h1 h2 (hb c)
  have hS := Cert.KernelIdeal.Own.scale_eq m c
  refine ⟨?_, ?_, ?_, e10.trans (codes_eq m m' c h0 (hb c)), ?_, ha⟩
  · funext i
    obtain ⟨b, q, rfl⟩ : ∃ (b : Fin 1) (q : Fin 128), i = ix2 b q := ⟨i 0, i 1, eq_ix2 i⟩
    exact (e33 b q).trans (by rw [hl q]; exact (Cert.KernelIdeal.Own.ent_val m c _ hS _ q b).symm)
  · funext i
    obtain ⟨b, q, rfl⟩ : ∃ (b : Fin 1) (q : Fin 128), i = ix2 b q := ⟨i 0, i 1, eq_ix2 i⟩
    exact (e34 b q).trans (by rw [hl q]; exact (Cert.KernelIdeal.Own.var_val m c _ hS _ q b).symm)
  · funext i
    obtain ⟨q, l, rfl⟩ : ∃ (q : Fin 128) (l : Fin 7), i = ix2 q l := ⟨i 0, i 1, eq_ix2 i⟩
    refine (e32 q l).trans ?_
    refine Eq.trans ?_ (Cert.KernelIdeal.Own.lp_val m c _ hS _ q l (hx c _)).symm
    have ht : (⟨(m' ((c.tc : Thread Cert.ReferenceIdeal.nD Cert.ReferenceIdeal.τ).loc Cert.ReferenceIdeal.main_arg3) (ix3 0 q l) : BitVec 32).toNat, hx' c _⟩ : Fin 32000)
        = ⟨(m ((c.tc : Thread Cert.KernelIdeal.nD Cert.KernelIdeal.τ).loc Cert.KernelIdeal.main_arg3) (ix3 0 q l) : BitVec 32).toNat, hx c _⟩ :=
      Fin.ext (congrArg BitVec.toNat (congrFun h3 (ix3 0 q l)))
    rw [hl q, ht]
  · funext i
    obtain ⟨b, q, rfl⟩ : ∃ (b : Fin 1) (q : Fin 128), i = ix2 b q := ⟨i 0, i 1, eq_ix2 i⟩
    exact (e35 b q).trans (by rw [X_eq m m' c h0, ← (exps m c (hb c) q).1]; exact (Cert.KernelIdeal.Own.row_val m c b q).symm)

end Cert.Proof

end
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.ReferenceIdeal.Run
public import proofs.«01_k».proof.Proof.Agree

@[expose] public section

noncomputable section

namespace Cert.Proof

open Idealize.ShloMosaic Idealize.SL.Sem

/-- The named constants of the idealized kernel are the ones their bit patterns round. -/
theorem preserves : Cert.preserves_Kernel_KernelIdeal :=
  ⟨IdealRules.named_const.statement Cert.KernelIdeal.κ "log2e" .f32 0x3FB8AA3B#32 _ rfl,
    IdealRules.named_const.statement Cert.KernelIdeal.κ "ln2" .f32 0x3F317218#32 _ rfl,
    IdealRules.named_const.statement Cert.KernelIdeal.κ "ln2_sq" .f32 0x3EF5FDF0#32 _ rfl⟩

theorem claim : Cert.Claim :=
  ⟨Cert.Kernel.Gen.facts, Cert.KernelIdeal.Gen.facts, Cert.ReferenceIdeal.Gen.facts, Cert.Pre_in_range.Own.facts,
    fun m ρ _ => Cert.Kernel.Own.frame m ρ,
    fun m ρ _ => Cert.KernelIdeal.Own.frame m ρ,
    fun m ρ _ => Cert.KernelIdeal.Own.frame m ρ,
    fun m ρ _ => Cert.ReferenceIdeal.Gen.frame m ρ,
    fun m ρ _ => Cert.ReferenceIdeal.Gen.frame m ρ,
    preserves,
    algebraic⟩

end Cert.Proof

end
